-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "sq" .f32 0x40ABE401#32 ((Real.sqrt (((Real.log 2) * (13421773 / 268435456))⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S2048x256 : Shape := ⟨2, ![2048, 256]⟩
abbrev S2048 : Shape := ⟨1, ![2048]⟩
abbrev S2048x1 : Shape := ⟨2, ![2048, 1]⟩
abbrev S1x1 : Shape := ⟨2, ![1, 1]⟩
abbrev S4x1x8192 : Shape := ⟨3, ![4, 1, 8192]⟩
abbrev S4x1x128 : Shape := ⟨3, ![4, 1, 128]⟩
abbrev S4x1x2048 : Shape := ⟨3, ![4, 1, 2048]⟩
abbrev S2048x128 : Shape := ⟨2, ![2048, 128]⟩
abbrev S2048x2048 : Shape := ⟨2, ![2048, 2048]⟩
abbrev S1x2048 : Shape := ⟨2, ![1, 2048]⟩
abbrev S1x8192 : Shape := ⟨2, ![1, 8192]⟩
abbrev S1x1x8192 : Shape := ⟨3, ![1, 1, 8192]⟩
abbrev S128x128 : Shape := ⟨2, ![128, 128]⟩
abbrev S128 : Shape := ⟨1, ![128]⟩
abbrev S1x1x128 : Shape := ⟨3, ![1, 1, 128]⟩
abbrev S1x128 : Shape := ⟨2, ![1, 128]⟩
abbrev S1x1x2048 : Shape := ⟨3, ![1, 1, 2048]⟩
abbrev S8192 : Shape := ⟨1, ![8192]⟩
abbrev S1 : Shape := ⟨1, ![1]⟩
abbrev S1x1x1 : Shape := ⟨3, ![1, 1, 1]⟩

abbrev nBuf : Space → Nat
  | .hbm => 4
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .fp8e4m3⟩
  | .hbm, ⟨3, _⟩ => ⟨S1x1, .f32⟩
  | .local _ .vmem, ⟨0, _⟩ => ⟨S2048x256, .f32⟩
  | .local _ .vmem, ⟨1, _⟩ => ⟨S2048x256, .f32⟩
  | .local _ .vmem, ⟨2, _⟩ => ⟨S2048x256, .fp8e4m3⟩
  | .local _ .vmem, ⟨3, _⟩ => ⟨S2048x256, .fp8e4m3⟩
  | .local _ .vmem, ⟨4, _⟩ => ⟨S2048x256, .f32⟩
  | .local _ .vmem, ⟨5, _⟩ => ⟨S2048x256, .f32⟩
  | .local _ .vmem, ⟨6, _⟩ => ⟨S8192x256, .fp8e4m3⟩
  | .local _ .vmem, ⟨7, _⟩ => ⟨S2048x256, .fp8e4m3⟩
  | .local _ .vmem, ⟨8, _⟩ => ⟨S2048x256, .fp8e4m3⟩
  | .local _ .vmem, ⟨9, _⟩ => ⟨S1x1, .f32⟩
  | .local _ .vmem, ⟨10, _⟩ => ⟨S4x1x8192, .f32⟩
  | .local _ .vmem, ⟨11, _⟩ => ⟨S4x1x128, .f32⟩
  | .local _ .vmem, ⟨12, _⟩ => ⟨S4x1x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def k1_off1 (i : grid1.Coords) : Fin 3 → Nat :=
  let arg0 : BitVec 32 := BitVec.ofNat 32 (i 0).val
  let v175 : Index := Scalar.indexCast arg0
  let c0_19 : Index := 0#32
  let c0_20 : Index := 0#32
  ![v175.toNat, 0, 0]
def k1_off2 (i : grid1.Coords) : Fin 3 → Nat :=
  let arg0 : BitVec 32 := BitVec.ofNat 32 (i 0).val
  let v194 : Index := Scalar.indexCast arg0
  let c0_28 : Index := 0#32
  let c0_29 : Index := 0#32
  ![v194.toNat, 0, 0]
def k1_off3 (i : grid1.Coords) : Fin 3 → Nat :=
  let arg0 : BitVec 32 := BitVec.ofNat 32 (i 0).val
  let v201 : Index := Scalar.indexCast arg0
  let c0_32 : Index := 0#32
  let c0_33 : Index := 0#32
  ![v201.toNat, 0, 0]
def k1_cond1 (i : grid1.Coords) : BitVec 1 :=
  let arg0 : BitVec 32 := BitVec.ofNat 32 (i 0).val
  let c3_i32 : BitVec 32 := 3#32
  let v205 : BitVec 1 := Scalar.cmpi .eq arg0 c3_i32
  let v206 : BitVec 32 := Scalar.extui v205
  let c0_i32 : BitVec 32 := 0#32
  let v207 : BitVec 1 := Scalar.cmpi .ne v206 c0_i32
  v207

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== KernelIdeal.lean ====
variable {F : FTy → Type} [FloatOps F] [Named F]
def κ : String → Option EReal := fun
  | "sq" => some ((Real.sqrt (((Real.log 2) * (13421773 / 268435456))⁻¹) : ℝ) : EReal)
  | _ => none
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.KernelIdeal.Prep.lean ====
/- The first call of the program: each grid point normalises one block of 2048 rows of the key array and stores it
   scaled. This module gives what the call's pipeline holds point by point, and its body's obligation, at any
   contents of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.Ring
public import Idealize.ShloMosaic.Lib.Tactic

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F] [Named F]

local notation "𝕄" => MT nD τ sig Unit (Elt F) ℕ (UR sig nD τ) ℕ

/-- The contents of every TensorCore buffer, core by core, when a call is entered. -/
abbrev Contents (F : FTy → Type) := (c : Dev nD) → (b : Ref sig .tc) → Buf (Elt F) ((c : Thread nD τ).loc b)

variable (V : Contents F)

/-- The block of window `w` at point `t`, read off the window's array as the first call finds it. -/
def blkP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the first call's body does to its two staging buffers: the input's is left as it was, the output's holds the
    scaled rows of the input's. -/
theorem prep_triple (c : Dev nD) (E : Set ℕ) (i : grid0.Coords) (a1 : Memref sig .tc .vmem S2048x256 .f32) (h1 : a1.IsWhole)
    (a2 : Memref sig .tc .vmem S2048x256 .fp8e4m3) (h2 : a2.IsWhole) (x : Vec F S2048x256 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k0_pay1 x)) -∗ K ⟨⟩))
      ⊢ wp frame (wpE (defs₀ (F := F)) Variants.none c none) E (cc0__kprep_kernel i a1 h1 a2 h2) K := by
  simp only [cc0__kprep_kernel_eq_skeleton]; unfold cc0__kprep_kernel_skel
  unfold owns
  iintro ⟨⟨%f, %hf, H1⟩, ⟨%d, %g, -, H2⟩, Hk⟩
  subst hf
  sl_exec
  sl_step
  iapply Hk
  isplitl [H1]
  · iexists f; isplitr; · ipureintro; rfl
    iexact H1
  iexists _; isplitr
  swap; · iexact H2
  ipureintro
  rw [View.read_writes_full, View.readAt_full]

/-- The proof data of the first call on core `c`: its arrays as found, the input's buffer at its block after each point,
    the output's at the scaled rows of that block; nothing of the kernel's own is carried and nothing is owed. -/
def datP (c : Dev nD) : Dat τ (Elt F) Unit ℕ (UR sig nD τ) ℕ cfg0 c where
  A w := V c (Pipeline.arrRef spec0 w)
  after w t := match w with
    | ⟨0, _⟩ => blkP V c 0 t
    | ⟨1, _⟩ => k0_pay1 (blkP V c 0 t)
  Φ _ := Pipeline.ΦA spec0 c
  q _ := fullShare
  owed _ := 0

/-- The arrays of the first call's proof data are the entry contents. -/
theorem datP_A (c : Dev nD) (w : Fin cfg0.W) : (datP V c).A w = V c (Pipeline.arrRef spec0 w) := by
  dsimp only [datP]

theorem datP_after0 (c : Dev nD) (t : Fin cfg0.N) : (datP V c).after 0 t = blkP V c 0 t := by dsimp only [datP]
theorem datP_after1 (c : Dev nD) (t : Fin cfg0.N) : (datP V c).after 1 t = k0_pay1 (blkP V c 0 t) := by dsimp only [datP]

/-- The body finds the input's block in the input's buffer at every point. -/
theorem datP_before0 (c : Dev nD) (t : Fin cfg0.N) (d) : (datP V c).before 0 t d = blkP V c 0 t :=
  ((datP V c).before_in_eq_fetched 0 rfl (fun _ => rfl) (fun _ _ _ => rfl)
    (fun t => by rw [datP_after0]; unfold Dat.blockOf blkP; rw [datP_A]) t d).trans
    (by unfold Dat.fetched Dat.blockOf blkP; rw [datP_A]; rfl)

/-- What the first call's body is handed at point `t`. -/
def preP (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d)))

/-- What the first call's body gives back at point `t`. -/
def postP (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t))

/-- The first call's body at any point takes what it is handed to what it gives back. -/
theorem prep_point (c : Dev nD) (t : Fin cfg0.N) :
    preP V c t ⊢ wp frame (wpE (defs₀ (F := F)) Variants.none c none) Set.univ (bodyAt0 t) (fun _ => postP V c t) := by
  unfold preP postP bodyAt0
  simp only [datP_before0]
  rw [show (datP V c).Φ t.succ = (datP V c).Φ t.castSucc from rfl,
    show (datP V c).owesAt () t.succ = (datP V c).owesAt () t.castSucc from rfl, datP_after0, datP_after1]
  iintro ⟨HΦ, Ho, ⟨%d0, H0⟩, ⟨%d1, H1⟩⟩
  iapply (prep_triple c Set.univ (grid0.coords t) _ _ _ _ (blkP V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The row of the body table at the slots of point `t` is the first call's body on the buffers of that point. -/
theorem rowP (t : Fin cfg0.N) : defs₀ (F := F) .tc cfg0.body (cfg0.bodyArgs t (cfg0.slots t)) = bodyAt0 t := by
  unfold defs₀; rw [Defs.onTc_tc]

/-- The body obligation of the first call. -/
theorem oblP (c : Dev nD) : BodyObligation (datP (F := F) V c) (defs₀ (F := F)) Variants.none () Set.univ := fun t => by
  rw [bigSep_W0, bigSep_W0, rowP]
  exact triple_restated (prep_point V c t) rfl .rfl fun _ => .rfl

end Cert.KernelIdeal.Pf

end
-- ==== Proof.KernelIdeal.Body.lean ====
/- The body of the second call, as a triple over plain vectors: which row of each scratch buffer a point writes, and
   what the last point computes from the four rows. -/
module

public import proofs.«01_k».proof.Proof.KernelIdeal.Prep

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The four blocks of 2048 rows of the scaled keys, as the body loads them. -/
def kblk0 (x1 : Vec F S8192x256 .fp8e4m3) : Vec F S2048x256 .fp8e4m3 :=
  VecWindow.window x1 ![0, 0] S2048x256.size inb_S8192x256_S2048x256_0_0
def kblk1 (x1 : Vec F S8192x256 .fp8e4m3) : Vec F S2048x256 .fp8e4m3 :=
  VecWindow.window x1 ![2048, 0] S2048x256.size inb_S8192x256_S2048x256_2048_0
def kblk2 (x1 : Vec F S8192x256 .fp8e4m3) : Vec F S2048x256 .fp8e4m3 :=
  VecWindow.window x1 ![4096, 0] S2048x256.size inb_S8192x256_S2048x256_4096_0
def kblk3 (x1 : Vec F S8192x256 .fp8e4m3) : Vec F S2048x256 .fp8e4m3 :=
  VecWindow.window x1 ![6144, 0] S2048x256.size inb_S8192x256_S2048x256_6144_0

/-- The row a point writes in the buffer of column sums: of the exponentials of the point's rows against every key. -/
def rowC (x0 : Vec F S2048x256 .f32) (x1 : Vec F S8192x256 .fp8e4m3) : FVec F S1x1x8192 .f32 :=
  k1_pay24 (k1_pay14 (k1_pay11 x0 (kblk0 x1))) (k1_pay17 (k1_pay9 x0) (kblk1 x1))
    (k1_pay21 (k1_pay18 (k1_pay9 x0) (kblk2 x1))) (k1_pay22 (k1_pay9 x0) (kblk3 x1))

/-- The row a point writes in the buffer of row losses, per lane. -/
def rowL (x0 : Vec F S2048x256 .f32) (x1 : Vec F S8192x256 .fp8e4m3) (x2 : Vec F S2048x256 .fp8e4m3) : FVec F S1x1x128 .f32 :=
  k1_pay25 (k1_pay10 x0 x2)
    (k1_pay20 (k1_pay16 (k1_pay9 x0) (k1_pay11 x0 (kblk0 x1)) (k1_pay12 x0 (kblk0 x1)) (k1_pay13 x0 (kblk0 x1)) (kblk1 x1))
      (k1_pay18 (k1_pay9 x0) (kblk2 x1)))
    (k1_pay22 (k1_pay9 x0) (kblk3 x1)) (k1_pay23 (k1_pay9 x0) (kblk3 x1))

/-- The row a point writes in the buffer of diagonal products. -/
def rowD (x0 : Vec F S2048x256 .f32) (x2 : Vec F S2048x256 .fp8e4m3) : FVec F S1x1x2048 .f32 :=
  k1_pay1 (k1_pay26 (k1_pay10 x0 x2))

/-- The scale of the second exponential, a constant of the last point. -/
def sqF : F .f32 := Named.named κ "sq" 0x40ABE401#32

/-- The loss the last point stores, from the four rows of each scratch buffer. -/
def lossOf (c0 c1 c2 c3 : Vec F S1x1x8192 .f32) (l0 l1 l2 l3 : Vec F S1x1x128 .f32) (d0 d1 d2 d3 : Vec F S1x1x2048 .f32) :
    FVec F S1x1 .f32 :=
  k1_pay7 (k1_pay5 (k1_pay2 c0 c1 c2 c3) (k1_pay3 c0 c1 c2 c3 d0) (k1_pay4 d1) sqF d2)
    (k1_pay6 (k1_pay2 c0 c1 c2 c3) d3) (Scalar.ofBits .f32 0x00000000#32) l0 l1 l2 l3

/-- Row `r` of each scratch buffer. -/
def winC (x : Vec F S4x1x8192 .f32) (r : ℕ) (h : ∀ a, (![r, 0, 0] : Fin 3 → ℕ) a + S1x1x8192.size a ≤ S4x1x8192.size a) : Vec F S1x1x8192 .f32 :=
  VecWindow.window x ![r, 0, 0] S1x1x8192.size h
def winL (x : Vec F S4x1x128 .f32) (r : ℕ) (h : ∀ a, (![r, 0, 0] : Fin 3 → ℕ) a + S1x1x128.size a ≤ S4x1x128.size a) : Vec F S1x1x128 .f32 :=
  VecWindow.window x ![r, 0, 0] S1x1x128.size h
def winD (x : Vec F S4x1x2048 .f32) (r : ℕ) (h : ∀ a, (![r, 0, 0] : Fin 3 → ℕ) a + S1x1x2048.size a ≤ S4x1x2048.size a) : Vec F S1x1x2048 .f32 :=
  VecWindow.window x ![r, 0, 0] S1x1x2048.size h

/-- Row `r` of each scratch buffer replaced. -/
def putC (x : Vec F S4x1x8192 .f32) (r : ℕ) (w : Vec F S1x1x8192 .f32) : Vec F S4x1x8192 .f32 :=
  VecWindow.put x ![r, 0, 0] S1x1x8192.size w
def putL (x : Vec F S4x1x128 .f32) (r : ℕ) (w : Vec F S1x1x128 .f32) : Vec F S4x1x128 .f32 :=
  VecWindow.put x ![r, 0, 0] S1x1x128.size w
def putD (x : Vec F S4x1x2048 .f32) (r : ℕ) (w : Vec F S1x1x2048 .f32) : Vec F S4x1x2048 .f32 :=
  VecWindow.put x ![r, 0, 0] S1x1x2048.size w

/-- A load of a whole block of queries reads the block. -/
theorem ldQ_eq (x : Vec F S2048x256 .f32) :
    VecWindow.window x ![0, 0] S2048x256.size inb_S2048x256_S2048x256_0_0 = x :=
  funext fun y => congrArg x (funext fun a => Fin.ext (by
    match a with
    | 0 => exact (Nat.zero_add _).trans (Nat.one_mul _)
    | 1 => exact (Nat.zero_add _).trans (Nat.one_mul _)))

/-- A load of a whole block of scaled keys reads the block. -/
theorem ldK_eq (x : Vec F S2048x256 .fp8e4m3) :
    VecWindow.window x ![0, 0] S2048x256.size inb_S2048x256_S2048x256_0_0 = x :=
  funext fun y => congrArg x (funext fun a => Fin.ext (by
    match a with
    | 0 => exact (Nat.zero_add _).trans (Nat.one_mul _)
    | 1 => exact (Nat.zero_add _).trans (Nat.one_mul _)))

set_option maxHeartbeats 1000000 in
/-- A point that is not the last: the input buffers and the output's are left as they were, and each scratch buffer has
    the point's row replaced. -/
theorem body_early (c : Dev nD) (i : grid1.Coords) (a1 : Memref sig .tc .vmem S2048x256 .f32) (h1 : a1.IsWhole)
    (a2 : Memref sig .tc .vmem S8192x256 .fp8e4m3) (h2 : a2.IsWhole) (a3 : Memref sig .tc .vmem S2048x256 .fp8e4m3) (h3 : a3.IsWhole)
    (a4 : Memref sig .tc .vmem S1x1 .f32) (h4 : a4.IsWhole) (a5 : Memref sig .tc .vmem S4x1x8192 .f32) (h5 : a5.IsWhole)
    (a6 : Memref sig .tc .vmem S4x1x128 .f32) (h6 : a6.IsWhole) (a7 : Memref sig .tc .vmem S4x1x2048 .f32) (h7 : a7.IsWhole)
    (hc : ¬ k1_cond1 i = 1#1) (x0 : Vec F S2048x256 .f32) (x1 : Vec F S8192x256 .fp8e4m3) (x2 : Vec F S2048x256 .fp8e4m3)
    (d5 : Vec F S4x1x8192 .f32) (d6 : Vec F S4x1x128 .f32) (d7 : Vec F S4x1x2048 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a5 fullShare d5 ∗ owns (c : Thread nD τ) a6 fullShare d6 ∗ owns (c : Thread nD τ) a7 fullShare d7
        ∗ (iprop(owns (c : Thread nD τ) a1 fullShare x0 ∗ owns (c : Thread nD τ) a2 fullShare x1 ∗ owns (c : Thread nD τ) a3 fullShare x2
            ∗ owns (c : Thread nD τ) a5 fullShare (putC d5 (i 0).val (rowC x0 x1))
            ∗ owns (c : Thread nD τ) a6 fullShare (putL d6 (i 0).val (rowL x0 x1 x2))
            ∗ owns (c : Thread nD τ) a7 fullShare (putD d7 (i 0).val (rowD x0 x2))) -∗ K ⟨⟩))
      ⊢ wp frame (wpE (defs₀ (F := F)) Variants.none c none) E (cc1__main_kernel i a1 h1 a2 h2 a3 h3 a4 h4 a5 h5 a6 h6 a7 h7) K := by
  simp only [cc1__main_kernel_eq_skeleton]; unfold cc1__main_kernel_skel
  simp only [k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  subst hf0; subst hf1; subst hf2; subst hf5; subst hf6; subst hf7
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_cons_put _ _ _ _ _ (k1_off1_eq i)).trans ?_
    rw [← ldQ_eq (View.read (Elt F) a1.view f0)]
    rfl
  isplitl [H6]
  · iexists _; isplitr
    swap; · iexact H6
    ipureintro
    refine (View.read_writes_cons_put _ _ _ _ _ (k1_off2_eq i)).trans ?_
    rw [← ldQ_eq (View.read (Elt F) a1.view f0), ← ldK_eq (View.read (Elt F) a3.view f2)]
    rfl
  iexists _; isplitr
  swap; · iexact H7
  ipureintro
  refine (View.read_writes_cons_put _ _ _ _ _ (k1_off3_eq i)).trans ?_
  rw [← ldQ_eq (View.read (Elt F) a1.view f0), ← ldK_eq (View.read (Elt F) a3.view f2)]
  rfl

/-- At the last point, a load of an earlier row of the column sums, after the point's store, reads the row as found; -/
theorem readC_low {sp : Space} (v : View sig .tc sp S4x1x8192 .f32) (f : v.ty.Contents (Elt F)) (w : Vec F S1x1x8192 .f32) (i : grid1.Coords)
    (hi : (i 0).val = 3) (r : ℕ) (hr : r < 3) (inb : ∀ a, (![r, 0, 0] : Fin 3 → ℕ) a + S1x1x8192.size a ≤ S4x1x8192.size a) :
    v.readAt (Elt F) (Rect.unit (s := S4x1x8192) ![r, 0, 0] S1x1x8192.size inb).toLoadRect
        (v.writes (Elt F) f [⟨Rect.unit (s := S4x1x8192) (k1_off1 i) S1x1x8192.size (k1_off1_inb i), w⟩])
      = winC (v.read (Elt F) f) r inb := by
  rw [View.readAt_unit v _ inb rfl inb, View.read_writes_cons_put _ _ _ _ _ (k1_off1_eq i), View.writes_nil]
  exact VecWindow.window_put_of_disjoint _ _ _ _ _ inb _ 0 (Or.inl (by
    show r + 1 ≤ (i 0).val
    omega))

/-- and a load of the last row reads what the point stored. -/
theorem readC_last {sp : Space} (v : View sig .tc sp S4x1x8192 .f32) (f : v.ty.Contents (Elt F)) (w : Vec F S1x1x8192 .f32) (i : grid1.Coords)
    (hi : (i 0).val = 3) (inb : ∀ a, (![3, 0, 0] : Fin 3 → ℕ) a + S1x1x8192.size a ≤ S4x1x8192.size a) :
    v.readAt (Elt F) (Rect.unit (s := S4x1x8192) ![3, 0, 0] S1x1x8192.size inb).toLoadRect
        (v.writes (Elt F) f [⟨Rect.unit (s := S4x1x8192) (k1_off1 i) S1x1x8192.size (k1_off1_inb i), w⟩]) = w := by
  rw [View.readAt_unit v _ inb rfl inb, View.read_writes_cons_put _ _ _ _ _ ((k1_off1_eq i).trans (by rw [hi])), View.writes_nil]
  exact VecWindow.window_put_same _ _ _ inb _

/-- At the last point, a load of an earlier row of the row losses, after the point's store, reads the row as found; -/
theorem readL_low {sp : Space} (v : View sig .tc sp S4x1x128 .f32) (f : v.ty.Contents (Elt F)) (w : Vec F S1x1x128 .f32) (i : grid1.Coords)
    (hi : (i 0).val = 3) (r : ℕ) (hr : r < 3) (inb : ∀ a, (![r, 0, 0] : Fin 3 → ℕ) a + S1x1x128.size a ≤ S4x1x128.size a) :
    v.readAt (Elt F) (Rect.unit (s := S4x1x128) ![r, 0, 0] S1x1x128.size inb).toLoadRect
        (v.writes (Elt F) f [⟨Rect.unit (s := S4x1x128) (k1_off2 i) S1x1x128.size (k1_off2_inb i), w⟩])
      = winL (v.read (Elt F) f) r inb := by
  rw [View.readAt_unit v _ inb rfl inb, View.read_writes_cons_put _ _ _ _ _ (k1_off2_eq i), View.writes_nil]
  exact VecWindow.window_put_of_disjoint _ _ _ _ _ inb _ 0 (Or.inl (by
    show r + 1 ≤ (i 0).val
    omega))

/-- and a load of the last row reads what the point stored. -/
theorem readL_last {sp : Space} (v : View sig .tc sp S4x1x128 .f32) (f : v.ty.Contents (Elt F)) (w : Vec F S1x1x128 .f32) (i : grid1.Coords)
    (hi : (i 0).val = 3) (inb : ∀ a, (![3, 0, 0] : Fin 3 → ℕ) a + S1x1x128.size a ≤ S4x1x128.size a) :
    v.readAt (Elt F) (Rect.unit (s := S4x1x128) ![3, 0, 0] S1x1x128.size inb).toLoadRect
        (v.writes (Elt F) f [⟨Rect.unit (s := S4x1x128) (k1_off2 i) S1x1x128.size (k1_off2_inb i), w⟩]) = w := by
  rw [View.readAt_unit v _ inb rfl inb, View.read_writes_cons_put _ _ _ _ _ ((k1_off2_eq i).trans (by rw [hi])), View.writes_nil]
  exact VecWindow.window_put_same _ _ _ inb _

/-- At the last point, a load of an earlier row of the diagonal products, after the point's store, reads the row as found; -/
theorem readD_low {sp : Space} (v : View sig .tc sp S4x1x2048 .f32) (f : v.ty.Contents (Elt F)) (w : Vec F S1x1x2048 .f32) (i : grid1.Coords)
    (hi : (i 0).val = 3) (r : ℕ) (hr : r < 3) (inb : ∀ a, (![r, 0, 0] : Fin 3 → ℕ) a + S1x1x2048.size a ≤ S4x1x2048.size a) :
    v.readAt (Elt F) (Rect.unit (s := S4x1x2048) ![r, 0, 0] S1x1x2048.size inb).toLoadRect
        (v.writes (Elt F) f [⟨Rect.unit (s := S4x1x2048) (k1_off3 i) S1x1x2048.size (k1_off3_inb i), w⟩])
      = winD (v.read (Elt F) f) r inb := by
  rw [View.readAt_unit v _ inb rfl inb, View.read_writes_cons_put _ _ _ _ _ (k1_off3_eq i), View.writes_nil]
  exact VecWindow.window_put_of_disjoint _ _ _ _ _ inb _ 0 (Or.inl (by
    show r + 1 ≤ (i 0).val
    omega))

/-- and a load of the last row reads what the point stored. -/
theorem readD_last {sp : Space} (v : View sig .tc sp S4x1x2048 .f32) (f : v.ty.Contents (Elt F)) (w : Vec F S1x1x2048 .f32) (i : grid1.Coords)
    (hi : (i 0).val = 3) (inb : ∀ a, (![3, 0, 0] : Fin 3 → ℕ) a + S1x1x2048.size a ≤ S4x1x2048.size a) :
    v.readAt (Elt F) (Rect.unit (s := S4x1x2048) ![3, 0, 0] S1x1x2048.size inb).toLoadRect
        (v.writes (Elt F) f [⟨Rect.unit (s := S4x1x2048) (k1_off3 i) S1x1x2048.size (k1_off3_inb i), w⟩]) = w := by
  rw [View.readAt_unit v _ inb rfl inb, View.read_writes_cons_put _ _ _ _ _ ((k1_off3_eq i).trans (by rw [hi])), View.writes_nil]
  exact VecWindow.window_put_same _ _ _ inb _

set_option maxHeartbeats 2000000 in
/-- The last point: the input buffers are left as they were, the rows of the scratch buffers' last row replaced, and the
    output's buffer holds the loss of the rows found and the row written. -/
theorem body_last (c : Dev nD) (i : grid1.Coords) (a1 : Memref sig .tc .vmem S2048x256 .f32) (h1 : a1.IsWhole)
    (a2 : Memref sig .tc .vmem S8192x256 .fp8e4m3) (h2 : a2.IsWhole) (a3 : Memref sig .tc .vmem S2048x256 .fp8e4m3) (h3 : a3.IsWhole)
    (a4 : Memref sig .tc .vmem S1x1 .f32) (h4 : a4.IsWhole) (a5 : Memref sig .tc .vmem S4x1x8192 .f32) (h5 : a5.IsWhole)
    (a6 : Memref sig .tc .vmem S4x1x128 .f32) (h6 : a6.IsWhole) (a7 : Memref sig .tc .vmem S4x1x2048 .f32) (h7 : a7.IsWhole)
    (hc : k1_cond1 i = 1#1) (hi : (i 0).val = 3) (x0 : Vec F S2048x256 .f32) (x1 : Vec F S8192x256 .fp8e4m3) (x2 : Vec F S2048x256 .fp8e4m3)
    (d5 : Vec F S4x1x8192 .f32) (d6 : Vec F S4x1x128 .f32) (d7 : Vec F S4x1x2048 .f32) (E : Set ℕ) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ owns (c : Thread nD τ) a5 fullShare d5 ∗ owns (c : Thread nD τ) a6 fullShare d6 ∗ owns (c : Thread nD τ) a7 fullShare d7
        ∗ (iprop(owns (c : Thread nD τ) a1 fullShare x0 ∗ owns (c : Thread nD τ) a2 fullShare x1 ∗ owns (c : Thread nD τ) a3 fullShare x2
            ∗ owns (c : Thread nD τ) a4 fullShare (lossOf (winC d5 0 inb_S4x1x8192_S1x1x8192_0_0_0) (winC d5 1 inb_S4x1x8192_S1x1x8192_1_0_0)
                (winC d5 2 inb_S4x1x8192_S1x1x8192_2_0_0) (rowC x0 x1)
                (winL d6 0 inb_S4x1x128_S1x1x128_0_0_0) (winL d6 1 inb_S4x1x128_S1x1x128_1_0_0)
                (winL d6 2 inb_S4x1x128_S1x1x128_2_0_0) (rowL x0 x1 x2)
                (winD d7 0 inb_S4x1x2048_S1x1x2048_0_0_0) (winD d7 1 inb_S4x1x2048_S1x1x2048_1_0_0)
                (winD d7 2 inb_S4x1x2048_S1x1x2048_2_0_0) (rowD x0 x2))
            ∗ (∃ d, owns (c : Thread nD τ) a5 fullShare d)
            ∗ (∃ d, owns (c : Thread nD τ) a6 fullShare d)
            ∗ (∃ d, owns (c : Thread nD τ) a7 fullShare d)) -∗ K ⟨⟩))
      ⊢ wp frame (wpE (defs₀ (F := F)) Variants.none c none) E (cc1__main_kernel i a1 h1 a2 h2 a3 h3 a4 h4 a5 h5 a6 h6 a7 h7) K := by
  simp only [cc1__main_kernel_eq_skeleton]; unfold cc1__main_kernel_skel
  simp only [k1_part1_eq_skeleton, k1_part2_eq_skeleton, k1_part3_eq_skeleton, k1_part4_eq_skeleton, k1_part5_eq_skeleton,
    k1_part6_eq_skeleton, k1_part7_eq_skeleton]
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, ⟨%f7, %hf7, H7⟩, Hk⟩
  subst hf0; subst hf1; subst hf2; subst hf5; subst hf6; subst hf7
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_full]
    obtain ⟨C, hC⟩ : ∃ C, C = rowC (VecWindow.window (a1.view.read (Elt F) f0) ![0, 0] S2048x256.size inb_S2048x256_S2048x256_0_0) (a2.view.read (Elt F) f1) := ⟨_, rfl⟩
    obtain ⟨L, hL⟩ : ∃ L, L = rowL (VecWindow.window (a1.view.read (Elt F) f0) ![0, 0] S2048x256.size inb_S2048x256_S2048x256_0_0) (a2.view.read (Elt F) f1) (VecWindow.window (a3.view.read (Elt F) f2) ![0, 0] S2048x256.size inb_S2048x256_S2048x256_0_0) := ⟨_, rfl⟩
    obtain ⟨D, hD⟩ : ∃ D, D = rowD (VecWindow.window (a1.view.read (Elt F) f0) ![0, 0] S2048x256.size inb_S2048x256_S2048x256_0_0) (VecWindow.window (a3.view.read (Elt F) f2) ![0, 0] S2048x256.size inb_S2048x256_S2048x256_0_0) := ⟨_, rfl⟩
    refine Eq.trans (b := lossOf
        (a5.view.readAt (Elt F) (Rect.unit (s := S4x1x8192) ![0, 0, 0] S1x1x8192.size inb_S4x1x8192_S1x1x8192_0_0_0).toLoadRect
          (a5.view.writes (Elt F) f5 [⟨Rect.unit (s := S4x1x8192) (k1_off1 i) S1x1x8192.size (k1_off1_inb i), C⟩]))
        (a5.view.readAt (Elt F) (Rect.unit (s := S4x1x8192) ![1, 0, 0] S1x1x8192.size inb_S4x1x8192_S1x1x8192_1_0_0).toLoadRect
          (a5.view.writes (Elt F) f5 [⟨Rect.unit (s := S4x1x8192) (k1_off1 i) S1x1x8192.size (k1_off1_inb i), C⟩]))
        (a5.view.readAt (Elt F) (Rect.unit (s := S4x1x8192) ![2, 0, 0] S1x1x8192.size inb_S4x1x8192_S1x1x8192_2_0_0).toLoadRect
          (a5.view.writes (Elt F) f5 [⟨Rect.unit (s := S4x1x8192) (k1_off1 i) S1x1x8192.size (k1_off1_inb i), C⟩]))
        (a5.view.readAt (Elt F) (Rect.unit (s := S4x1x8192) ![3, 0, 0] S1x1x8192.size inb_S4x1x8192_S1x1x8192_3_0_0).toLoadRect
          (a5.view.writes (Elt F) f5 [⟨Rect.unit (s := S4x1x8192) (k1_off1 i) S1x1x8192.size (k1_off1_inb i), C⟩]))
        (a6.view.readAt (Elt F) (Rect.unit (s := S4x1x128) ![0, 0, 0] S1x1x128.size inb_S4x1x128_S1x1x128_0_0_0).toLoadRect
          (a6.view.writes (Elt F) f6 [⟨Rect.unit (s := S4x1x128) (k1_off2 i) S1x1x128.size (k1_off2_inb i), L⟩]))
        (a6.view.readAt (Elt F) (Rect.unit (s := S4x1x128) ![1, 0, 0] S1x1x128.size inb_S4x1x128_S1x1x128_1_0_0).toLoadRect
          (a6.view.writes (Elt F) f6 [⟨Rect.unit (s := S4x1x128) (k1_off2 i) S1x1x128.size (k1_off2_inb i), L⟩]))
        (a6.view.readAt (Elt F) (Rect.unit (s := S4x1x128) ![2, 0, 0] S1x1x128.size inb_S4x1x128_S1x1x128_2_0_0).toLoadRect
          (a6.view.writes (Elt F) f6 [⟨Rect.unit (s := S4x1x128) (k1_off2 i) S1x1x128.size (k1_off2_inb i), L⟩]))
        (a6.view.readAt (Elt F) (Rect.unit (s := S4x1x128) ![3, 0, 0] S1x1x128.size inb_S4x1x128_S1x1x128_3_0_0).toLoadRect
          (a6.view.writes (Elt F) f6 [⟨Rect.unit (s := S4x1x128) (k1_off2 i) S1x1x128.size (k1_off2_inb i), L⟩]))
        (a7.view.readAt (Elt F) (Rect.unit (s := S4x1x2048) ![0, 0, 0] S1x1x2048.size inb_S4x1x2048_S1x1x2048_0_0_0).toLoadRect
          (a7.view.writes (Elt F) f7 [⟨Rect.unit (s := S4x1x2048) (k1_off3 i) S1x1x2048.size (k1_off3_inb i), D⟩]))
        (a7.view.readAt (Elt F) (Rect.unit (s := S4x1x2048) ![1, 0, 0] S1x1x2048.size inb_S4x1x2048_S1x1x2048_1_0_0).toLoadRect
          (a7.view.writes (Elt F) f7 [⟨Rect.unit (s := S4x1x2048) (k1_off3 i) S1x1x2048.size (k1_off3_inb i), D⟩]))
        (a7.view.readAt (Elt F) (Rect.unit (s := S4x1x2048) ![2, 0, 0] S1x1x2048.size inb_S4x1x2048_S1x1x2048_2_0_0).toLoadRect
          (a7.view.writes (Elt F) f7 [⟨Rect.unit (s := S4x1x2048) (k1_off3 i) S1x1x2048.size (k1_off3_inb i), D⟩]))
        (a7.view.readAt (Elt F) (Rect.unit (s := S4x1x2048) ![3, 0, 0] S1x1x2048.size inb_S4x1x2048_S1x1x2048_3_0_0).toLoadRect
          (a7.view.writes (Elt F) f7 [⟨Rect.unit (s := S4x1x2048) (k1_off3 i) S1x1x2048.size (k1_off3_inb i), D⟩]))) (by subst hC hL hD; rfl) ?_
    rw [readC_low _ _ _ i hi 0 (by decide), readC_low _ _ _ i hi 1 (by decide), readC_low _ _ _ i hi 2 (by decide), readC_last _ _ _ i hi,
      readL_low _ _ _ i hi 0 (by decide), readL_low _ _ _ i hi 1 (by decide), readL_low _ _ _ i hi 2 (by decide), readL_last _ _ _ i hi,
      readD_low _ _ _ i hi 0 (by decide), readD_low _ _ _ i hi 1 (by decide), readD_low _ _ _ i hi 2 (by decide), readD_last _ _ _ i hi,
      hC, hL, hD, ldQ_eq, ldK_eq]
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.KernelIdeal.Pf

end
-- ==== Proof.KernelIdeal.Main.lean ====
/- The second call of the program, point by point: between points the scratch buffers hold the rows written so far, the
   last point stores the loss of all four. This module gives the call's proof data and its body's obligation, at any
   contents of the buffers on entry. -/
module

public import proofs.«01_k».proof.Proof.KernelIdeal.Body
public import Idealize.ShloMosaic.Lib.WordCmp

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F] [Named F]

local notation "𝕄" => MT nD τ sig Unit (Elt F) ℕ (UR sig nD τ) ℕ

variable (V : Contents F)

/-- The block of window `w` at point `t`, read off the window's array as the second call finds it. -/
def blkM (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second call's grid has four points. -/
theorem ltN {r : ℕ} (h : r < 4) : r < cfg1.N := lt_of_lt_of_eq h (show cfg1.N = 4 from N_1).symm

/-- The row of column sums point `r` writes, -/
def colAt (c : Dev nD) (r : ℕ) (h : r < 4) : Vec F S1x1x8192 .f32 :=
  rowC (blkM V c 0 ⟨r, ltN h⟩) (blkM V c 1 ⟨r, ltN h⟩)
/-- its row of row losses, -/
def lossRowAt (c : Dev nD) (r : ℕ) (h : r < 4) : Vec F S1x1x128 .f32 :=
  rowL (blkM V c 0 ⟨r, ltN h⟩) (blkM V c 1 ⟨r, ltN h⟩) (blkM V c 2 ⟨r, ltN h⟩)
/-- and its row of diagonal products. -/
def diagAt (c : Dev nD) (r : ℕ) (h : r < 4) : Vec F S1x1x2048 .f32 :=
  rowD (blkM V c 0 ⟨r, ltN h⟩) (blkM V c 2 ⟨r, ltN h⟩)

/-- The loss the second call stores. -/
def lossM (c : Dev nD) : Vec F S1x1 .f32 :=
  lossOf (colAt V c 0 (by decide)) (colAt V c 1 (by decide)) (colAt V c 2 (by decide)) (colAt V c 3 (by decide))
    (lossRowAt V c 0 (by decide)) (lossRowAt V c 1 (by decide)) (lossRowAt V c 2 (by decide)) (lossRowAt V c 3 (by decide))
    (diagAt V c 0 (by decide)) (diagAt V c 1 (by decide)) (diagAt V c 2 (by decide)) (diagAt V c 3 (by decide))

/-- A row below the fourth lies inside each scratch buffer. -/
theorem inC {r : ℕ} (h : r < 4) : ∀ a, (![r, 0, 0] : Fin 3 → ℕ) a + S1x1x8192.size a ≤ S4x1x8192.size a
  | 0 => by show r + 1 ≤ 4; omega
  | 1 => Nat.le_refl 1
  | 2 => Nat.le_of_eq rfl
theorem inL {r : ℕ} (h : r < 4) : ∀ a, (![r, 0, 0] : Fin 3 → ℕ) a + S1x1x128.size a ≤ S4x1x128.size a
  | 0 => by show r + 1 ≤ 4; omega
  | 1 => Nat.le_refl 1
  | 2 => Nat.le_of_eq rfl
theorem inD {r : ℕ} (h : r < 4) : ∀ a, (![r, 0, 0] : Fin 3 → ℕ) a + S1x1x2048.size a ≤ S4x1x2048.size a
  | 0 => by show r + 1 ≤ 4; omega
  | 1 => Nat.le_refl 1
  | 2 => Nat.le_of_eq rfl

/-- Before point `n` the buffer of column sums holds the rows of the points before it (after the last point nothing is
    recorded); -/
def HoldsC (c : Dev nD) (n : ℕ) (d : Vec F S4x1x8192 .f32) : Prop :=
  n < 4 → ∀ r (h : r < 4), r < n → winC d r (inC h) = colAt V c r h
/-- so does the buffer of row losses, -/
def HoldsL (c : Dev nD) (n : ℕ) (d : Vec F S4x1x128 .f32) : Prop :=
  n < 4 → ∀ r (h : r < 4), r < n → winL d r (inL h) = lossRowAt V c r h
/-- and that of diagonal products. -/
def HoldsD (c : Dev nD) (n : ℕ) (d : Vec F S4x1x2048 .f32) : Prop :=
  n < 4 → ∀ r (h : r < 4), r < n → winD d r (inD h) = diagAt V c r h

/-- Writing the point's row carries what the buffer of column sums holds to the next point; -/
theorem HoldsC.put {c : Dev nD} {n : ℕ} {d : Vec F S4x1x8192 .f32} (H : HoldsC V c n d) (hn : n < 4) :
    HoldsC V c (n + 1) (putC d n (colAt V c n hn)) := fun _ r h hr => by
  rcases Nat.lt_succ_iff_lt_or_eq.mp hr with hlt | rfl
  · exact (VecWindow.window_put_of_disjoint _ _ _ _ _ (inC h) _ 0 (Or.inl (by show r + 1 ≤ n; omega))).trans (H hn r h hlt)
  · exact VecWindow.window_put_same _ _ _ (inC h) _
/-- likewise of row losses, -/
theorem HoldsL.put {c : Dev nD} {n : ℕ} {d : Vec F S4x1x128 .f32} (H : HoldsL V c n d) (hn : n < 4) :
    HoldsL V c (n + 1) (putL d n (lossRowAt V c n hn)) := fun _ r h hr => by
  rcases Nat.lt_succ_iff_lt_or_eq.mp hr with hlt | rfl
  · exact (VecWindow.window_put_of_disjoint _ _ _ _ _ (inL h) _ 0 (Or.inl (by show r + 1 ≤ n; omega))).trans (H hn r h hlt)
  · exact VecWindow.window_put_same _ _ _ (inL h) _
/-- and of diagonal products. -/
theorem HoldsD.put {c : Dev nD} {n : ℕ} {d : Vec F S4x1x2048 .f32} (H : HoldsD V c n d) (hn : n < 4) :
    HoldsD V c (n + 1) (putD d n (diagAt V c n hn)) := fun _ r h hr => by
  rcases Nat.lt_succ_iff_lt_or_eq.mp hr with hlt | rfl
  · exact (VecWindow.window_put_of_disjoint _ _ _ _ _ (inD h) _ 0 (Or.inl (by show r + 1 ≤ n; omega))).trans (H hn r h hlt)
  · exact VecWindow.window_put_same _ _ _ (inD h) _

/-- The scratch buffers as the body is passed them. -/
abbrev sC : Memref sig .tc .vmem S4x1x8192 .f32 := Memref.whole cc1_scratch0
abbrev sL : Memref sig .tc .vmem S4x1x128 .f32 := Memref.whole cc1_scratch1
abbrev sD : Memref sig .tc .vmem S4x1x2048 .f32 := Memref.whole cc1_scratch2

/-- A scoped buffer of a core at some contents. -/
abbrev someBuf (c : Dev nD) (b : Ref sig .tc) : sProp 𝕄 :=
  iprop(∃ f : Buf (Elt F) ((c : Thread nD τ).loc b), ((c : Thread nD τ).loc b) ↦{fullShare} f)

/-- The first call's staging buffers, untouched by the second, and the generator register. -/
def asideM (c : Dev nD) : sProp 𝕄 :=
  iprop((someBuf (F := F) c cc0_stg0_0 ∗ someBuf (F := F) c cc0_stg0_1 ∗ someBuf (F := F) c cc0_stg1_0 ∗ someBuf (F := F) c cc0_stg1_1) ∗ (∃ r, prngReg c r))

/-- What is held between points of the second call: before point `n`, each scratch buffer at contents that hold the rows
    of the points before it. -/
def heldM (c : Dev nD) (n : ℕ) : sProp 𝕄 :=
  iprop(asideM (F := F) c ∗ (∃ d, ⌜HoldsC V c n d⌝ ∗ owns (c : Thread nD τ) sC fullShare d)
    ∗ (∃ d, ⌜HoldsL V c n d⌝ ∗ owns (c : Thread nD τ) sL fullShare d)
    ∗ (∃ d, ⌜HoldsD V c n d⌝ ∗ owns (c : Thread nD τ) sD fullShare d))

/-- The proof data of the second call on core `c`: its arrays as found, each input's buffer at its block after each
    point, the output's at the loss where it is stored; between points the scratch rows written so far. -/
def datM (c : Dev nD) : Dat τ (Elt F) Unit ℕ (UR sig nD τ) ℕ cfg1 c where
  A w := V c (Pipeline.arrRef spec1 w)
  after w t := match w with
    | ⟨0, _⟩ => blkM V c 0 t
    | ⟨1, _⟩ => blkM V c 1 t
    | ⟨2, _⟩ => blkM V c 2 t
    | ⟨3, _⟩ => lossM V c
  Φ t := heldM V c t.val
  q w := Pipeline.shareOf spec1 w
  owed _ := 0

/-- The arrays of the second call's proof data are the entry contents. -/
theorem datM_A (c : Dev nD) (w : Fin cfg1.W) : (datM V c).A w = V c (Pipeline.arrRef spec1 w) := by
  dsimp only [datM]
theorem datM_after0 (c : Dev nD) (t : Fin cfg1.N) : (datM V c).after 0 t = blkM V c 0 t := by dsimp only [datM]
theorem datM_after1 (c : Dev nD) (t : Fin cfg1.N) : (datM V c).after 1 t = blkM V c 1 t := by dsimp only [datM]
theorem datM_after2 (c : Dev nD) (t : Fin cfg1.N) : (datM V c).after 2 t = blkM V c 2 t := by dsimp only [datM]
theorem datM_after3 (c : Dev nD) (t : Fin cfg1.N) : (datM V c).after 3 t = lossM V c := by dsimp only [datM]

/-- The body finds each input's block in the input's buffer at every point. -/
theorem datM_before0 (c : Dev nD) (t : Fin cfg1.N) (d) : (datM V c).before 0 t d = blkM V c 0 t :=
  ((datM V c).before_in_eq_fetched 0 rfl (fun _ => rfl) (fun _ _ _ => rfl)
    (fun t => by rw [datM_after0]; unfold Dat.blockOf blkM; rw [datM_A]) t d).trans
    (by unfold Dat.fetched Dat.blockOf blkM; rw [datM_A]; rfl)
theorem datM_before1 (c : Dev nD) (t : Fin cfg1.N) (d) : (datM V c).before 1 t d = blkM V c 1 t :=
  ((datM V c).before_in_eq_fetched 1 rfl (fun _ => rfl) (fun _ _ _ => rfl)
    (fun t => by rw [datM_after1]; unfold Dat.blockOf blkM; rw [datM_A]) t d).trans
    (by unfold Dat.fetched Dat.blockOf blkM; rw [datM_A]; rfl)
theorem datM_before2 (c : Dev nD) (t : Fin cfg1.N) (d) : (datM V c).before 2 t d = blkM V c 2 t :=
  ((datM V c).before_in_eq_fetched 2 rfl (fun _ => rfl) (fun _ _ _ => rfl)
    (fun t => by rw [datM_after2]; unfold Dat.blockOf blkM; rw [datM_A]) t d).trans
    (by unfold Dat.fetched Dat.blockOf blkM; rw [datM_A]; rfl)

/-- The grid coordinate of a point of the second call is the point. -/
theorem coordM (t : Fin cfg1.N) : (grid1.coords t 0).val = t.val := by
  have ht : t.val < 4 := Nat.lt_of_lt_of_eq t.isLt N_1
  have e0 : (grid1.coords t 0).val = t.val / 1 % 4 := Pipeline.Grid.coords_val t 0 (by decide) rfl
  omega

/-- The body's condition holds at the last point only. -/
theorem condM : ∀ t : Fin cfg1.N, k1_cond1 (grid1.coords t) = 1#1 ↔ t.val % 4 = 3 :=
  (fun t => by
    have ht : t.val < 4 := Nat.lt_of_lt_of_eq t.isLt N_1
    have e0 : (grid1.coords t 0).val = t.val / 1 % 4 := Pipeline.Grid.coords_val t 0 (by decide) rfl
    simp only [k1_cond1, e0]
    word_cmp
   : ∀ t : Fin grid1.N, k1_cond1 (grid1.coords t) = 1#1 ↔ t.val % 4 = 3)

/-- What is owed of an input's buffer after a point: its block. -/
theorem leaves0 (c : Dev nD) (t : Fin cfg1.N) :
    (datM V c).leavesExact 0 t = owns (c : Thread nD τ) (st1_0 t) fullShare (blkM V c 0 t) := by
  unfold Dat.leavesExact; rw [show cfg1.idle 0 (grid1.coords t) = false from rfl, datM_after0]
theorem leaves1 (c : Dev nD) (t : Fin cfg1.N) :
    (datM V c).leavesExact 1 t = owns (c : Thread nD τ) (st1_1 t) fullShare (blkM V c 1 t) := by
  unfold Dat.leavesExact; rw [show cfg1.idle 1 (grid1.coords t) = false from rfl, datM_after1]
theorem leaves2 (c : Dev nD) (t : Fin cfg1.N) :
    (datM V c).leavesExact 2 t = owns (c : Thread nD τ) (st1_2 t) fullShare (blkM V c 2 t) := by
  unfold Dat.leavesExact; rw [show cfg1.idle 2 (grid1.coords t) = false from rfl, datM_after2]
/-- What is owed of the output's buffer after the last point: the loss; -/
theorem leaves3_last (c : Dev nD) (t : Fin cfg1.N) (h : t.val % 4 = 3) :
    (datM V c).leavesExact 3 t = owns (c : Thread nD τ) (st1_3 t) fullShare (lossM V c) := by
  have hi : cfg1.idle 3 (grid1.coords t) = false := by
    show (!(k1_cond1 (grid1.coords t) == 1#1)) = false
    rw [(condM t).mpr h]; rfl
  unfold Dat.leavesExact; rw [hi, datM_after3]
/-- after an earlier one: what it held. -/
theorem leaves3_early (c : Dev nD) (t : Fin cfg1.N) (h : ¬ t.val % 4 = 3) :
    (datM V c).leavesExact 3 t = iprop(∃ d, owns (c : Thread nD τ) (st1_3 t) fullShare ((datM V c).before 3 t d)) := by
  have hi : cfg1.idle 3 (grid1.coords t) = true := by
    show (!(k1_cond1 (grid1.coords t) == 1#1)) = true
    rw [Bool.not_eq_true', beq_eq_false_iff_ne]
    exact fun e => h ((condM t).mp e)
  exact (datM V c).leavesExact_idle 3 t hi (Bool.eq_false_iff.mpr fun e => h ((flush1_3 t).mp e))

/-- What the second call's body is handed at point `t`. -/
def preM (c : Dev nD) (t : Fin cfg1.N) : sProp 𝕄 :=
  iprop((datM V c).Φ t.castSucc ∗ (datM V c).owesAt () t.castSucc
    ∗ (∃ d, owns (c : Thread nD τ) (st1_0 t) fullShare ((datM V c).before 0 t d))
    ∗ (∃ d, owns (c : Thread nD τ) (st1_1 t) fullShare ((datM V c).before 1 t d))
    ∗ (∃ d, owns (c : Thread nD τ) (st1_2 t) fullShare ((datM V c).before 2 t d))
    ∗ (∃ d, owns (c : Thread nD τ) (st1_3 t) fullShare ((datM V c).before 3 t d)))

/-- What the second call's body gives back at point `t`. -/
def postM (c : Dev nD) (t : Fin cfg1.N) : sProp 𝕄 :=
  iprop((datM V c).Φ t.succ ∗ (datM V c).owesAt () t.succ
    ∗ (datM V c).leavesExact 0 t ∗ (datM V c).leavesExact 1 t ∗ (datM V c).leavesExact 2 t ∗ (datM V c).leavesExact 3 t)

set_option maxHeartbeats 800000 in
/-- The second call's body at any point takes what it is handed to what it gives back. -/
theorem main_point (c : Dev nD) (t : Fin cfg1.N) :
    preM V c t ⊢ wp frame (wpE (defs₀ (F := F)) Variants.none c none) Set.univ (bodyAt1 t) (fun _ => postM V c t) := by
  have hN : t.val < 4 := lt_of_lt_of_eq t.isLt (show cfg1.N = 4 from N_1)
  unfold preM postM bodyAt1
  simp only [datM_before0, datM_before1, datM_before2]
  rw [show (datM V c).Φ t.succ = heldM V c (t.val + 1) from rfl, show (datM V c).Φ t.castSucc = heldM V c t.val from rfl,
    show (datM V c).owesAt () t.succ = (datM V c).owesAt () t.castSucc from rfl, leaves0, leaves1, leaves2]
  unfold heldM
  iintro ⟨⟨Ha, ⟨%d5, %hC, H5⟩, ⟨%d6, %hL, H6⟩, ⟨%d7, %hD, H7⟩⟩, Ho, ⟨%e0, H0⟩, ⟨%e1, H1⟩, ⟨%e2, H2⟩, ⟨%e3, H3⟩⟩
  by_cases h : t.val % 4 = 3
  · have ht : t.val = 3 := by omega
    have htt : t = ⟨3, ltN (by decide)⟩ := Fin.ext ht
    rw [leaves3_last V c t h]
    iapply (body_last c (grid1.coords t) _ _ _ _ _ _ _ _ _ _ _ _ _ _ ((condM t).mpr h) ((coordM t).trans ht)
      (blkM V c 0 t) (blkM V c 1 t) (blkM V c 2 t) d5 d6 d7 Set.univ _)
    isplitl [H0]; · iexact H0
    isplitl [H1]; · iexact H1
    isplitl [H2]; · iexact H2
    isplitl [H3]; · iexists _; iexact H3
    isplitl [H5]; · iexact H5
    isplitl [H6]; · iexact H6
    isplitl [H7]; · iexact H7
    rw [show winC d5 0 inb_S4x1x8192_S1x1x8192_0_0_0 = colAt V c 0 (by decide) from hC hN 0 (by decide) (by omega)]
    rw [show winC d5 1 inb_S4x1x8192_S1x1x8192_1_0_0 = colAt V c 1 (by decide) from hC hN 1 (by decide) (by omega)]
    rw [show winC d5 2 inb_S4x1x8192_S1x1x8192_2_0_0 = colAt V c 2 (by decide) from hC hN 2 (by decide) (by omega)]
    rw [show winL d6 0 inb_S4x1x128_S1x1x128_0_0_0 = lossRowAt V c 0 (by decide) from hL hN 0 (by decide) (by omega)]
    rw [show winL d6 1 inb_S4x1x128_S1x1x128_1_0_0 = lossRowAt V c 1 (by decide) from hL hN 1 (by decide) (by omega)]
    rw [show winL d6 2 inb_S4x1x128_S1x1x128_2_0_0 = lossRowAt V c 2 (by decide) from hL hN 2 (by decide) (by omega)]
    rw [show winD d7 0 inb_S4x1x2048_S1x1x2048_0_0_0 = diagAt V c 0 (by decide) from hD hN 0 (by decide) (by omega)]
    rw [show winD d7 1 inb_S4x1x2048_S1x1x2048_1_0_0 = diagAt V c 1 (by decide) from hD hN 1 (by decide) (by omega)]
    rw [show winD d7 2 inb_S4x1x2048_S1x1x2048_2_0_0 = diagAt V c 2 (by decide) from hD hN 2 (by decide) (by omega)]
    iintro ⟨H0, H1, H2, H3, ⟨%f5, H5⟩, ⟨%f6, H6⟩, ⟨%f7, H7⟩⟩
    isplitl [Ha H5 H6 H7]
    · isplitl [Ha]; · iexact Ha
      isplitl [H5]
      · iexists f5; isplitr; · ipureintro; exact fun hlt => absurd hlt (by omega)
        iexact H5
      isplitl [H6]
      · iexists f6; isplitr; · ipureintro; exact fun hlt => absurd hlt (by omega)
        iexact H6
      iexists f7; isplitr; · ipureintro; exact fun hlt => absurd hlt (by omega)
      iexact H7
    isplitl [Ho]; · iexact Ho
    isplitl [H0]; · iexact H0
    isplitl [H1]; · iexact H1
    isplitl [H2]; · iexact H2
    subst htt
    iexact H3
  · rw [leaves3_early V c t h]
    iapply (body_early c (grid1.coords t) _ _ _ _ _ _ (st1_3 t) (hstage1_3 ((cfg1.slots t 3).cast nbuf1_3)) _ _ _ _ _ _ (fun e => h ((condM t).mp e))
      (blkM V c 0 t) (blkM V c 1 t) (blkM V c 2 t) d5 d6 d7 Set.univ _)
    rw [coordM t]
    isplitl [H0]; · iexact H0
    isplitl [H1]; · iexact H1
    isplitl [H2]; · iexact H2
    isplitl [H5]; · iexact H5
    isplitl [H6]; · iexact H6
    isplitl [H7]; · iexact H7
    iintro ⟨H0, H1, H2, H5, H6, H7⟩
    isplitl [Ha H5 H6 H7]
    · isplitl [Ha]; · iexact Ha
      isplitl [H5]
      · iexists _; isplitr; · ipureintro; exact hC.put V hN
        iexact H5
      isplitl [H6]
      · iexists _; isplitr; · ipureintro; exact hL.put V hN
        iexact H6
      iexists _; isplitr; · ipureintro; exact hD.put V hN
      iexact H7
    isplitl [Ho]; · iexact Ho
    isplitl [H0]; · iexact H0
    isplitl [H1]; · iexact H1
    isplitl [H2]; · iexact H2
    iexists _; iexact H3

/-- The row of the body table at the slots of point `t` is the second call's body on the buffers of that point. -/
theorem rowM (t : Fin cfg1.N) : defs₀ (F := F) .tc cfg1.body (cfg1.bodyArgs t (cfg1.slots t)) = bodyAt1 t := by
  unfold defs₀; rw [Defs.onTc_tc]

/-- The body obligation of the second call. -/
theorem oblM (c : Dev nD) : BodyObligation (datM (F := F) V c) (defs₀ (F := F)) Variants.none () Set.univ := fun t => by
  rw [bigSep_W1, bigSep_W1, rowM]
  exact triple_restated (main_point V c t) rfl .rfl fun _ => .rfl

end Cert.KernelIdeal.Pf

end
-- ==== Proof.KernelIdeal.Run.lean ====
/- The run of the program: from any memory, what its buffers hold when both calls are done. -/
module

public import proofs.«01_k».proof.Proof.KernelIdeal.Main
public import Idealize.ShloMosaic.Lib.Pipeline.ValueKit

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays of the arguments. -/
abbrev argRefs : List (Ref sig .tc) := [main_arg0, main_arg1]

/-! ## The buffer contents at launch, between the calls and at the end -/

/-- Core `c`'s buffers at launch. -/
abbrev W0 : Dev nD → Valuation τ sig (Elt F) := fun c b => m ((c : Dev nD), b)
/-- The same, read at the TensorCore's references. -/
abbrev V0 : Contents F := fun c b => W0 m c b
/-- Core `c`'s buffers between the calls: the first call's arrays at what its write-backs leave, the rest as launched. -/
def W1 (c : Dev nD) : Valuation τ sig (Elt F) :=
  Pipeline.withArrays spec0 c (W0 m c) fun w => (datP (V0 m) c).arrAt w cfg0.N
theorem W1_arr (c : Dev nD) (w : Fin cfg0.W) :
    W1 m c (Proc.devRef .tc (Pipeline.arrRef spec0 w)) = (datP (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A buffer the first call does not write is as launched after it. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((datP (V0 m) c).arrAt_in w (h w rfl) _).trans (datP_A (V0 m) c w))
  · exact W1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
/-- The arguments are as launched between the calls. -/
theorem W1_args (c : Dev nD) : ∀ a ∈ argRefs, W1 m c (Proc.devRef .tc a) = m ((c : Thread nD τ).loc a) :=
  fun a ha => W1_of m c a (argsIn0 a ha)
abbrev V1 : Contents F := fun c b => W1 m c b
theorem hF0 (c : Dev nD) (w : Fin cfg0.W) : (datP (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Core `c`'s buffers at the end: the second call's arrays at what its write-backs leave, the rest as between the calls. -/
def W2 (c : Dev nD) : Valuation τ sig (Elt F) :=
  Pipeline.withArrays spec1 c (W1 m c) fun w => (datM (V1 m) c).arrAt w cfg1.N
theorem W2_arr (c : Dev nD) (w : Fin cfg1.W) :
    W2 m c (Proc.devRef .tc (Pipeline.arrRef spec1 w)) = (datM (V1 m) c).arrAt w cfg1.N := by
  unfold W2; exact (datM (V1 m) c).withArrays_arrAt launch₀1.sharedIn _ (datM_A (V1 m) c) w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A buffer the second call does not write keeps its contents across it. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((datM (V1 m) c).arrAt_in w (h w rfl) _).trans (datM_A (V1 m) c w))
  · exact W2_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
/-- The arguments end as launched. -/
theorem W2_args (c : Dev nD) : ∀ a ∈ argRefs, W2 m c (Proc.devRef .tc a) = m ((c : Thread nD τ).loc a) :=
  fun a ha => (W2_of m c a (argsIn1 a ha)).trans (W1_args m c a ha)
abbrev V2 : Contents F := fun c b => W2 m c b
theorem hF1 (c : Dev nD) (w : Fin cfg1.W) : (datM (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- The result array ends holding the loss of the second call. -/
theorem W2_result (c : Dev nD) : W2 m c (Proc.devRef .tc main_v1) = lossM (V1 m) c := by
  refine (W2_arr m c 3).trans ((datM (V1 m) c).arrAt_eq_of_after_last 3 ⟨3, ltN (by decide)⟩ (by decide +kernel) _ fun j => ?_)
  rw [datM_after3]
  rfl

/-- A whole buffer at known contents is one at some contents. -/
theorem forget (c : Dev nD) (b : Ref sig .tc) (d) :
    (owns (c : Thread nD τ) (Memref.whole b) fullShare d : sProp 𝕄) ⊢ someBuf (F := F) c b := by
  rw [owns_whole]
  iintro H
  iexists d
  iexact H

/-! ## The calls as segments of the run -/

/-- No call has a prefetched table. -/
abbrev adm : (p : Fin 2) → (pcfgs (F := F) p).Adm := fun p => (cfgs p).toPCfg_adm
/-- The proof data of both calls, each at the contents it is entered with. -/
def pdats : (p : Fin 2) → (c : Dev nD) → Dat τ (Elt F) Unit ℕ (UR sig nD τ) ℕ (Pipeline.pin (pcfgs (F := F)) adm p) c
  | ⟨0, _⟩ => fun c => datP (V0 m) c
  | ⟨1, _⟩ => fun c => datM (V1 m) c
abbrev 𝒱₀ : Variants := Variants.none
/-- Nothing is owed between cores, so no level is assigned. -/
abbrev L : GSem nD τ sig → Finset Unit := fun _ => ∅
abbrev lv : GSem nD τ sig → Unit → ℕ := fun _ _ => 0
/-- What rides beside the buffers: the generator register and a debt of nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread's state at the end: every unscoped buffer at the last contents and the generator register. -/
abbrev Tₙ (c : Dev nD) : sProp 𝕄 := iprop(StableHlo.held (c : Thread nD τ) (Pipeline.ucRefs τ sig) (W2 m c) ∗ ∃ r, prngReg c r)

set_option backward.isDefEq.respectTransparency.types false in
/-- The first call over the thread's state: its arrays are split out of the unscoped buffers and put back at what it leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (oblP (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (datP_A (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread's state, two of its windows sharing one array; between its points it tracks the scratch
    rows, none before the first point, and forgets them after the last. -/
def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (oblM (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (V1 m c) (datM_A (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = heldM (V1 m) c 0 from rfl,
      show Pipeline.scopedRest (Pipeline.pin (pcfgs (F := F)) adm 1).spec c = (Pipeline.scopedRest spec1 c : sProp 𝕄) from rfl, scopedRest1_eq]; unfold heldM asideM
    iintro ⟨Hp, -, H1, H2, H3, H4, ⟨%d5, H5⟩, ⟨%d6, H6⟩, ⟨%d7, H7⟩⟩
    isplitl [Hp H1 H2 H3 H4]
    · isplitl [H1 H2 H3 H4]
      · isplitl [H1]; · iexact H1
        isplitl [H2]; · iexact H2
        isplitl [H3]; · iexact H3
        iexact H4
      iexact Hp
    isplitl [H5]
    · iexists d5; isplitr; · ipureintro; exact fun _ _ _ hr => absurd hr (Nat.not_lt_zero _)
      rw [owns_whole]; iexact H5
    isplitl [H6]
    · iexists d6; isplitr; · ipureintro; exact fun _ _ _ hr => absurd hr (Nat.not_lt_zero _)
      rw [owns_whole]; iexact H6
    iexists d7; isplitr; · ipureintro; exact fun _ _ _ hr => absurd hr (Nat.not_lt_zero _)
    rw [owns_whole]; iexact H7
  hout c := by
    rw [Pipeline.ownSems0_none, show (pdats m 1 c).Φ (Fin.last _) = heldM (V1 m) c (Fin.last cfg1.N).val from rfl,
      show Pipeline.scopedRest (Pipeline.pin (pcfgs (F := F)) adm 1).spec c = (Pipeline.scopedRest spec1 c : sProp 𝕄) from rfl, scopedRest1_eq]
    unfold heldM asideM
    iintro ⟨⟨⟨H1, H2, H3, H4⟩, Hp⟩, ⟨%d5, -, H5⟩, ⟨%d6, -, H6⟩, ⟨%d7, -, H7⟩⟩
    isplitl [Hp]; · iexact Hp
    isplitr; · iempintro
    isplitl [H1]; · iexact H1
    isplitl [H2]; · iexact H2
    isplitl [H3]; · iexact H3
    isplitl [H4]; · iexact H4
    isplitl [H5]; · iapply (forget c cc1_scratch0 d5); iexact H5
    isplitl [H6]; · iapply (forget c cc1_scratch1 d6); iexact H6
    iapply (forget c cc1_scratch2 d7); iexact H7
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The program's two segments, one per call. -/
abbrev segs : List (Pipeline.Seg (pcfgs (F := F)) adm (pdats m) () defs₀ 𝒱₀ L lv) :=
  [ .region (reg0 m),
    .region (reg1 m) ]
/-- The program is the run of its segments. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

set_option backward.isDefEq.respectTransparency.types false in
/-- From any memory with every counter at zero, every execution of the program terminates with the arguments as launched,
    the result at the loss of the second call and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = lossM (V1 m) c)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨(fun c =>
      ⟨(h c _ (mem_uc main_arg0 (by decide))).trans (W2_args m c main_arg0 (by decide)),
       (h c _ (mem_uc main_arg1 (by decide))).trans (W2_args m c main_arg1 (by decide)),
       (h c _ (mem_uc main_v1 (by decide))).trans (W2_result m c)⟩), funext fun g => hz g (.inr (no_unscoped g.2))⟩)

end Cert.KernelIdeal.Pf

end
-- ==== Proof.Math.lean ====
/- The numbers of the loss: what the float words denote, the normalised rows, the exponentials, and the loss itself as a
   real number, with the arithmetic of the extended reals that leads from either program's formulas to it. -/
module

public import Idealize.ShloMosaic.Lib.Pointwise
public import Mathlib.Analysis.SpecialFunctions.Pow.Real

@[expose] public section

noncomputable section

namespace Cert.Loss

open Idealize.ShloMosaic

/-- The floor under a row's norm. -/
def floorR : ℝ := (Ideal.ofBits .f32 730643660#32 : EReal).toReal
/-- The summand under the logarithm. -/
def epsR : ℝ := (Ideal.ofBits .f32 925353388#32 : EReal).toReal
/-- The temperature. -/
def tempR : ℝ := 13421773 / 268435456
/-- The factor that turns the temperature and the base of the exponential into one square. -/
def sqR : ℝ := Real.sqrt ((Real.log 2 * (13421773 / 268435456))⁻¹)

/-- The word of the norms' floor denotes a positive number. -/
theorem floor_word : 0 < floorR ∧ Ideal.ofBits .f32 730643660#32 = ((floorR : ℝ) : EReal) := by
  have h : ∃ r : ℝ, 0 < r ∧ Ideal.ofBits .f32 730643660#32 = (r : EReal) := by
    simp [Ideal.ofBits, Ideal.ieee, -EReal.coe_mul]
  obtain ⟨r, hr, e⟩ := h
  have : floorR = r := by rw [floorR, e]; rfl
  rw [this]; exact ⟨hr, e⟩
/-- The word of the logarithm's summand denotes a positive number. -/
theorem eps_word : 0 < epsR ∧ Ideal.ofBits .f32 925353388#32 = ((epsR : ℝ) : EReal) := by
  have h : ∃ r : ℝ, 0 < r ∧ Ideal.ofBits .f32 925353388#32 = (r : EReal) := by
    simp [Ideal.ofBits, Ideal.ieee, -EReal.coe_mul]
  obtain ⟨r, hr, e⟩ := h
  have : epsR = r := by rw [epsR, e]; rfl
  rw [this]; exact ⟨hr, e⟩
/-- The word of the temperature. -/
theorem temp_word : Ideal.ofBits .f32 1028443341#32 = ((tempR : ℝ) : EReal) := by
  simp [Ideal.ofBits, Ideal.ieee, -EReal.coe_mul, tempR]
  norm_num
/-- The word of the number of rows. -/
theorem rows_word : Ideal.ofBits .f32 1174405120#32 = ((8192 : ℝ) : EReal) := by
  simp [Ideal.ofBits, Ideal.ieee, -EReal.coe_mul]
  norm_num
/-- The word of the inverse of the number of lanes. -/
theorem lanes_word : Ideal.ofBits .f32 1006632960#32 = ((1 / 128 : ℝ) : EReal) := by
  simp [Ideal.ofBits, Ideal.ieee, -EReal.coe_mul]
  norm_num
/-- The word of the inverse of the number of rows. -/
theorem inv_rows_word : Ideal.ofBits .f32 956301312#32 = ((1 / 8192 : ℝ) : EReal) := by
  simp [Ideal.ofBits, Ideal.ieee, -EReal.coe_mul]
  norm_num

/-- A finite sum of real numbers, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-! ### A normalised row -/

/-- A row's norm, not below the floor. -/
def scl (v : Fin 256 → EReal) : EReal := max (Ideal.sqrt (∑ k, v k * v k)) (Ideal.ofBits .f32 730643660#32)

/-- A component of the normalised row: a real number whatever the row is. -/
def nrm (v : Fin 256 → EReal) (j : Fin 256) : ℝ := (v j * (scl v)⁻¹).toReal

/-- A row's floored norm is positive. -/
theorem scl_pos (v : Fin 256 → EReal) : 0 < scl v := by
  refine lt_of_lt_of_le ?_ (le_max_right _ _)
  rw [floor_word.2]
  exact EReal.coe_pos.2 floor_word.1

/-- A square of an extended real is not negative. -/
theorem sq_nonneg' (x : EReal) : 0 ≤ x * x := by
  induction x with
  | bot => simp
  | top => simp
  | coe r => rw [← EReal.coe_mul]; exact EReal.coe_nonneg.2 (mul_self_nonneg r)

/-- A row with an infinite component has the norm `⊤`. -/
theorem scl_top (v : Fin 256 → EReal) (j : Fin 256) (h : v j * v j = ⊤) : scl v = ⊤ := by
  have hs : ∑ k, v k * v k = ⊤ := by
    refine top_unique (h ▸ ?_)
    exact Finset.single_le_sum (f := fun k => v k * v k) (fun k _ => sq_nonneg' (v k)) (Finset.mem_univ j)
  rw [scl, hs, Ideal.sqrt_top]
  exact max_eq_left le_top

/-- Dividing by the norm gives a real number: an infinite component divides by an infinite norm. -/
theorem nrm_eq (v : Fin 256 → EReal) (j : Fin 256) : v j * (scl v)⁻¹ = ((nrm v j : ℝ) : EReal) := by
  have key : ∃ r : ℝ, v j * (scl v)⁻¹ = (r : EReal) := by
    have hp := scl_pos v
    generalize hx : v j = x
    induction x with
    | bot => exact ⟨0, by rw [scl_top v j (by rw [hx]; simp)]; simp⟩
    | top => exact ⟨0, by rw [scl_top v j (by rw [hx]; simp)]; simp⟩
    | coe r =>
      generalize scl v = y at hp
      induction y with
      | bot => simp at hp
      | top => exact ⟨0, by simp⟩
      | coe s => exact ⟨r * s⁻¹, by rw [← EReal.coe_inv, EReal.coe_mul]⟩
  obtain ⟨r, hr⟩ := key
  rw [nrm, hr]; rfl

/-- The reference's quotient. -/
theorem div_scl (v : Fin 256 → EReal) (j : Fin 256) : Ideal.div (v j) (scl v) = ((nrm v j : ℝ) : EReal) := by
  rw [Ideal.div, if_neg (scl_pos v).ne', nrm_eq]

/-- The kernel's product with the reciprocal. -/
theorem mul_recip (v : Fin 256 → EReal) (j : Fin 256) : v j * Ideal.div 1 (scl v) = ((nrm v j : ℝ) : EReal) := by
  rw [Ideal.div, if_neg (scl_pos v).ne', one_mul, nrm_eq]

/-! ### Exponentials and logarithms -/

/-- The square of the factor is the reciprocal of `log 2` times the temperature. -/
theorem sq_mul_sq : sqR * sqR = (Real.log 2 * tempR)⁻¹ := by
  rw [sqR, Real.mul_self_sqrt, tempR]
  have := Real.log_pos (by norm_num : (1 : ℝ) < 2)
  positivity

/-- A power of two with the factor's square in the exponent is the exponential at the temperature. -/
theorem exp2_sq (x : ℝ) : Ideal.exp2 ((x * (sqR * sqR) : ℝ) : EReal) = ((Real.exp (x / tempR) : ℝ) : EReal) := by
  rw [Ideal.exp2_coe]
  congr 1
  show (2 : ℝ) ^ (x * (sqR * sqR)) = _
  rw [Real.rpow_def_of_pos (by norm_num), sq_mul_sq]
  congr 1
  have := (Real.log_pos (by norm_num : (1 : ℝ) < 2)).ne'
  have : tempR ≠ 0 := by norm_num [tempR]
  field_simp

/-- The exponential at the temperature, as the reference takes it. -/
theorem exp_div (x : ℝ) : Ideal.exp (Ideal.div (x : EReal) (Ideal.ofBits .f32 1028443341#32)) = ((Real.exp (x / tempR) : ℝ) : EReal) := by
  rw [temp_word, Ideal.div_coe (by norm_num [tempR]), ← EReal.coe_mul, Ideal.exp_coe, mul_one_div]

/-- One row's (or column's) loss from its diagonal exponential and its sum. -/
def nll (p s : ℝ) : ℝ := -Real.log (p / s + epsR)

/-- The logarithm of a ratio of positive numbers plus the summand is a real logarithm. -/
theorem log_ratio (p s : ℝ) (hp : 0 < p) (hs : 0 < s) :
    Ideal.log (Ideal.div (p : EReal) (s : EReal) + Ideal.ofBits .f32 925353388#32) = ((Real.log (p / s + epsR) : ℝ) : EReal) := by
  rw [eps_word.2, Ideal.div_coe hs.ne', ← EReal.coe_mul, ← EReal.coe_add, Ideal.log_coe, mul_one_div,
    if_neg (not_le.2 (add_pos (div_pos hp hs) eps_word.1))]

/-- The reference's spelling, with the sum taken apart and put together again. -/
theorem neg_log_ratio (p s : ℝ) (hp : 0 < p) (hs : 0 < s) :
    -Ideal.log (Ideal.div (p : EReal) ((p : EReal) + ((s : EReal) - (p : EReal))) + Ideal.ofBits .f32 925353388#32)
      = ((nll p s : ℝ) : EReal) := by
  rw [← EReal.coe_sub, ← EReal.coe_add, add_sub_cancel, log_ratio p s hp hs, ← EReal.coe_neg, nll]

/-- The kernel's spelling. -/
theorem zero_sub_log_ratio (p s : ℝ) (hp : 0 < p) (hs : 0 < s) :
    0 - Ideal.log (Ideal.div (p : EReal) (s : EReal) + Ideal.ofBits .f32 925353388#32) = ((nll p s : ℝ) : EReal) := by
  rw [log_ratio p s hp hs, ← EReal.coe_zero, ← EReal.coe_sub, zero_sub, nll]

/-! ### The loss -/

/-- The exponential of a scaled inner product. -/
def ex (a b : Fin 256 → ℝ) : ℝ := Real.exp ((∑ d, a d * b d) / tempR)

/-- An exponential is positive. -/
theorem ex_pos (a b : Fin 256 → ℝ) : 0 < ex a b := Real.exp_pos _

/-- A sum of positive numbers over a nonempty range is positive. -/
theorem sum_ex_pos {n : ℕ} (hn : 0 < n) (f : Fin n → ℝ) (h : ∀ i, 0 < f i) : 0 < ∑ i, f i :=
  Finset.sum_pos (fun i _ => h i) ⟨⟨0, hn⟩, Finset.mem_univ _⟩

/-- The loss of normalised queries and keys: over the rows and over the columns. -/
def loss (Q K : Fin 8192 → Fin 256 → ℝ) : ℝ :=
  ((∑ i, nll (ex (Q i) (K i)) (∑ j, ex (Q i) (K j))) + ∑ j, nll (ex (Q j) (K j)) (∑ i, ex (Q i) (K j))) / 8192

end Cert.Loss
end
-- ==== Proof.KernelIdeal.Value.lean ====
/- What the two calls' bodies compute, read as real numbers: the exponentials of a block, the row of column sums, the row
   of losses and the row of diagonal products a point writes, and the loss of the last point. -/
module

public import proofs.«01_k».proof.Proof.KernelIdeal.Run
public import proofs.«01_k».proof.Proof.Math
public import Idealize.ShloMosaic.Lib.Pointwise

@[expose] public section

set_option maxRecDepth 16384

noncomputable section

namespace Cert.KernelIdeal.Pf

open Idealize.ShloMosaic Idealize.ShloMosaic.TcCoe
open Cert.KernelIdeal.Gen Cert.Loss

/-- The named factor is the real number of that name. -/
theorem named_sq : (Named.named (F := Ideal) κ "sq" (φ := .f32) 1085006849#32 : EReal) = ((sqR : ℝ) : EReal) :=
  IdealRules.named_const.ideal_named_scalar _ _ _ _ rfl

/-- The normalised rows of a block of queries. -/
def rowsOf (x0 : Vec Ideal S2048x256 .f32) (a : Fin 2048) : Fin 256 → ℝ := nrm fun d => x0 (ix2 a d)

/-- A row of the keys by its position, zero past the last. -/
def keyAt (K : Fin 8192 → Fin 256 → ℝ) (n : ℕ) : Fin 256 → ℝ := if h : n < 8192 then K ⟨n, h⟩ else 0

/-- At a position in range it is that row. -/
theorem keyAt_fin (K : Fin 8192 → Fin 256 → ℝ) (j : Fin 8192) : keyAt K j = K j := by rw [keyAt, dif_pos j.2]

/-- The second call's normalised block of queries. -/
theorem pay8_eq (x0 : Vec Ideal S2048x256 .f32) (a : Fin 2048) (d : Fin 256) :
    k1_pay8 x0 (ix2 a d) = ((rowsOf x0 a d : ℝ) : EReal) := by
  rw [rowsOf, ← mul_recip]
  pointwise [k1_pay8]
  rfl

/-- The same, times the factor. -/
theorem pay9_eq (x0 : Vec Ideal S2048x256 .f32) (a : Fin 2048) (d : Fin 256) :
    k1_pay9 x0 (ix2 a d) = ((rowsOf x0 a d * sqR : ℝ) : EReal) := by
  pointwise [k1_pay9]
  rw [pay8_eq, named_sq, EReal.coe_mul]

/-- The first call's block: normalised rows times the factor. -/
theorem prep_eq (x : Vec Ideal S2048x256 .f32) (a : Fin 2048) (d : Fin 256) :
    k0_pay1 x (ix2 a d) = ((rowsOf x a d * sqR : ℝ) : EReal) := by
  rw [EReal.coe_mul, rowsOf, ← mul_recip, ← named_sq]
  pointwise [k0_pay1]
  rfl

/-- Two to the inner product of scaled rows is the exponential at the temperature. -/
theorem exp2_dot (u v : Fin 256 → ℝ) :
    Ideal.exp2 (∑ d, ((u d * sqR : ℝ) : EReal) * ((v d * sqR : ℝ) : EReal)) = ((ex u v : ℝ) : EReal) := by
  simp only [← EReal.coe_mul, coe_sum]
  rw [ex, ← exp2_sq, Finset.sum_mul]
  congr 2
  exact Finset.sum_congr rfl fun d _ => by ring

/-- Two to the product of an inner product of half-scaled rows with the factor is the same exponential. -/
theorem exp2_dot_mul (u v : Fin 256 → ℝ) :
    Ideal.exp2 ((((∑ d, u d * v d) * sqR : ℝ) : EReal) * (sqR : EReal)) = ((ex u v : ℝ) : EReal) := by
  rw [← EReal.coe_mul, mul_assoc, exp2_sq, ex]

section Block
variable (x0 : Vec Ideal S2048x256 .f32) (kb : Vec Ideal S2048x256 .fp8e4m3) (Kb : Fin 2048 → Fin 256 → ℝ)
  (h : ∀ b d, kb (ix2 b d) = ((Kb b d * sqR : ℝ) : EReal))
include h

/-- The exponentials of a block of queries against the first block of keys. -/
theorem pay11_eq (a b : Fin 2048) : k1_pay11 x0 kb (ix2 a b) = ((ex (rowsOf x0 a) (Kb b) : ℝ) : EReal) := by
  rw [← exp2_dot]
  pointwise [k1_pay11]
  simp only [pay9_eq, h]
  rfl
/-- Against the second. -/
theorem pay15_eq (a b : Fin 2048) : k1_pay15 (k1_pay9 x0) kb (ix2 a b) = ((ex (rowsOf x0 a) (Kb b) : ℝ) : EReal) := by
  rw [← exp2_dot]
  pointwise [k1_pay15]
  simp only [pay9_eq, h]
  rfl
/-- Against the third. -/
theorem pay19_eq (a b : Fin 2048) : k1_pay19 (k1_pay18 (k1_pay9 x0) kb) (ix2 a b) = ((ex (rowsOf x0 a) (Kb b) : ℝ) : EReal) := by
  rw [← exp2_dot]
  pointwise [k1_pay19, k1_pay18]
  simp only [pay9_eq, h]
  rfl
/-- Against the fourth. -/
theorem pay22_eq (a b : Fin 2048) : k1_pay22 (k1_pay9 x0) kb (ix2 a b) = ((ex (rowsOf x0 a) (Kb b) : ℝ) : EReal) := by
  rw [← exp2_dot]
  pointwise [k1_pay22]
  simp only [pay9_eq, h]
  rfl
end Block

/-- A sum over 8192 places as 128 lanes of 64 places each. -/
theorem sum_lanes (f : ℕ → ℝ) : ∑ j : Fin 8192, f j = ∑ l : Fin 128, ∑ t ∈ Finset.range 64, f (128 * t + l) := by
  rw [Fin.sum_univ_tiles 64 128 rfl, Finset.sum_comm]
  refine Finset.sum_congr rfl fun l _ => ?_
  rw [← Fin.sum_univ_eq_sum_range (fun t => f (128 * t + l))]
  exact Finset.sum_congr rfl fun t _ => congrArg f (by simp; ring)

section Point
variable (x0 : Vec Ideal S2048x256 .f32) (x1 : Vec Ideal S8192x256 .fp8e4m3) (x2 : Vec Ideal S2048x256 .fp8e4m3)
  (K : Fin 8192 → Fin 256 → ℝ) (Kd : Fin 2048 → Fin 256 → ℝ)
  (h1 : ∀ j d, x1 (ix2 j d) = ((K j d * sqR : ℝ) : EReal)) (h2 : ∀ a d, x2 (ix2 a d) = ((Kd a d * sqR : ℝ) : EReal))

include h1

/-- A window of 2048 rows of the scaled keys. -/
theorem window_eq (n : ℕ) (hn : ∀ a, (![n, 0] : Fin 2 → ℕ) a + S2048x256.size a ≤ S8192x256.size a) (b : Fin 2048) (d : Fin 256) :
    VecWindow.window x1 ![n, 0] S2048x256.size hn (ix2 b d) = ((keyAt K (n + b) d * sqR : ℝ) : EReal) := by
  have hb : n + b < 8192 := by
    have h0 : n + 2048 ≤ 8192 := hn 0
    omega
  rw [keyAt, dif_pos hb, ← h1]
  refine congrArg x1 (funext fun i => Fin.ext ?_)
  match i with
  | 0 => show n + 1 * (b : ℕ) = n + b; omega
  | 1 => show 0 + 1 * (d : ℕ) = d; omega
/-- The first block of keys as the body loads it, -/
theorem kblk0_eq (b : Fin 2048) (d : Fin 256) : kblk0 x1 (ix2 b d) = ((keyAt K b d * sqR : ℝ) : EReal) := by
  have := window_eq x1 K h1 0 inb_S8192x256_S2048x256_0_0 b d
  rwa [Nat.zero_add] at this
/-- the second, -/
theorem kblk1_eq (b : Fin 2048) (d : Fin 256) : kblk1 x1 (ix2 b d) = ((keyAt K (2048 + b) d * sqR : ℝ) : EReal) :=
  window_eq x1 K h1 2048 _ b d
/-- the third, -/
theorem kblk2_eq (b : Fin 2048) (d : Fin 256) : kblk2 x1 (ix2 b d) = ((keyAt K (4096 + b) d * sqR : ℝ) : EReal) :=
  window_eq x1 K h1 4096 _ b d
/-- and the fourth. -/
theorem kblk3_eq (b : Fin 2048) (d : Fin 256) : kblk3 x1 (ix2 b d) = ((keyAt K (6144 + b) d * sqR : ℝ) : EReal) :=
  window_eq x1 K h1 6144 _ b d

/-- The row of column sums: over the point's queries, of the exponentials against each key. -/
theorem rowC_eq (j : Fin 8192) : rowC x0 x1 (ix3 0 0 j) = ((∑ a, ex (rowsOf x0 a) (K j) : ℝ) : EReal) := by
  rw [← keyAt_fin K j]
  pointwise [rowC, k1_pay24, k1_pay14, k1_pay17, k1_pay21]
  by_cases i1 : (j : ℕ) < 2048
  · rw [dif_pos i1]
    simp only [pay11_eq x0 _ _ (kblk0_eq x1 K h1), coe_sum]
  rw [dif_neg i1]
  by_cases i2 : (j : ℕ) - 2048 < 2048
  · rw [dif_pos i2]
    simp only [pay15_eq x0 _ _ (kblk1_eq x1 K h1), coe_sum]
    rw [show 2048 + ((j : ℕ) - 2048) = j by omega]
  rw [dif_neg i2]
  by_cases i3 : (j : ℕ) - 2048 - 2048 < 2048
  · rw [dif_pos i3]
    simp only [pay19_eq x0 _ _ (kblk2_eq x1 K h1), coe_sum]
    rw [show 4096 + ((j : ℕ) - 2048 - 2048) = j by omega]
  rw [dif_neg i3]
  simp only [pay22_eq x0 _ _ (kblk3_eq x1 K h1), coe_sum]
  rw [show 6144 + ((j : ℕ) - 2048 - 2048 - 2048) = j by omega]

omit h1
include h2

/-- The two halves of a row's products, lane by lane, make the inner product. -/
theorem dp_eq (a : Fin 2048) :
    ∑ l : Fin 128, k1_pay10 x0 x2 (ix2 a l) = (((∑ d, rowsOf x0 a d * Kd a d) * sqR : ℝ) : EReal) := by
  rw [Fin.sum_univ_two_halves 128 128 rfl, ← Finset.sum_add_distrib, Finset.sum_mul, ← coe_sum]
  refine Finset.sum_congr rfl fun l _ => ?_
  pointwise [k1_pay10]
  simp only [pay8_eq, h2, ← EReal.coe_mul, ← EReal.coe_add]
  rw [add_mul, mul_assoc, mul_assoc]

/-- The row of diagonal products. -/
theorem rowD_eq (a : Fin 2048) : rowD x0 x2 (ix3 0 0 a) = (((∑ d, rowsOf x0 a d * Kd a d) * sqR : ℝ) : EReal) := by
  rw [← dp_eq x0 x2 Kd h2]
  pointwise [rowD, k1_pay1, k1_pay26]

include h1

/-- The row of losses holds in every lane the sum of the point's row losses. -/
theorem rowL_eq (l : Fin 128) :
    rowL x0 x1 x2 (ix3 0 0 l) = ((∑ a, nll (ex (rowsOf x0 a) (Kd a)) (∑ j, ex (rowsOf x0 a) (K j)) : ℝ) : EReal) := by
  rw [← coe_sum]
  pointwise [rowL, k1_pay25, k1_pay20, k1_pay16, k1_pay12, k1_pay13, k1_pay23]
  refine Finset.sum_congr rfl fun a _ => ?_
  rw [← zero_sub_log_ratio _ _ (ex_pos _ _) (sum_ex_pos (by norm_num) _ fun _ => ex_pos _ _)]
  refine congrArg (fun z => 0 - Ideal.log z) (congrArg (· + _) (congrArg₂ _ ?_ ?_))
  · rw [dp_eq x0 x2 Kd h2, named_sq]
    exact exp2_dot_mul _ _
  · simp only [pay11_eq x0 _ _ (kblk0_eq x1 K h1), pay15_eq x0 _ _ (kblk1_eq x1 K h1), pay19_eq x0 _ _ (kblk2_eq x1 K h1),
      pay22_eq x0 _ _ (kblk3_eq x1 K h1), ← EReal.coe_add, coe_sum]
    congr 1
    have hs : ∑ j, ex (rowsOf x0 a) (K j) = ∑ j : Fin 8192, ex (rowsOf x0 a) (keyAt K j) := by simp only [keyAt_fin]
    rw [hs, sum_lanes fun n => ex (rowsOf x0 a) (keyAt K n)]
    refine Finset.sum_congr rfl fun l _ => ?_
    generalize ex (rowsOf x0 a) = f
    simp only [Finset.sum_range_succ, Finset.sum_range_zero]
    ring_nf

end Point

/-- The last point's result from four rows of column sums, of losses and of diagonal products. -/
theorem lossOf_eq (c : Fin 4 → Vec Ideal S1x1x8192 .f32) (ℓ : Fin 4 → Vec Ideal S1x1x128 .f32) (d : Fin 4 → Vec Ideal S1x1x2048 .f32)
    (Q K : Fin 8192 → Fin 256 → ℝ) (C : Fin 4 → Fin 8192 → ℝ) (L : Fin 4 → ℝ)
    (hc : ∀ r j, c r (ix3 0 0 j) = ((C r j : ℝ) : EReal)) (hl : ∀ r i, ℓ r (ix3 0 0 i) = ((L r : ℝ) : EReal))
    (hd : ∀ r (a : Fin 2048), d r (ix3 0 0 a)
      = (((∑ k, keyAt Q (2048 * r + a) k * keyAt K (2048 * r + a) k) * sqR : ℝ) : EReal))
    (hC : ∀ j, C 0 j + C 1 j + C 2 j + C 3 j = ∑ i, ex (Q i) (K j))
    (hL : L 0 + L 1 + L 2 + L 3 = ∑ i, nll (ex (Q i) (K i)) (∑ j, ex (Q i) (K j))) :
    lossOf (c 0) (c 1) (c 2) (c 3) (ℓ 0) (ℓ 1) (ℓ 2) (ℓ 3) (d 0) (d 1) (d 2) (d 3) (ix2 0 0) = ((loss Q K : ℝ) : EReal) := by
  have term : ∀ (r : Fin 4) (a : Fin 2048) (n : ℕ) (hn : 2048 * (r : ℕ) + a = n) (hb : n < 8192),
      0 - Ideal.log (Ideal.div (FloatOps.exp2 (F := Ideal) (φ := .f32) (d r (ix3 0 0 a) * Named.named κ "sq" 1085006849#32))
          (c 0 (ix3 0 0 ⟨n, hb⟩) + c 1 (ix3 0 0 ⟨n, hb⟩) + c 2 (ix3 0 0 ⟨n, hb⟩) + c 3 (ix3 0 0 ⟨n, hb⟩))
            + Ideal.ofBits .f32 925353388#32)
        = ((nll (ex (keyAt Q n) (keyAt K n)) (∑ i, ex (Q i) (keyAt K n)) : ℝ) : EReal) := by
    intro r a n hn hb
    subst hn
    rw [hd, named_sq]
    simp only [hc, ← EReal.coe_add, hC]
    rw [← zero_sub_log_ratio _ _ (ex_pos _ _) (sum_ex_pos (by norm_num) _ fun _ => ex_pos _ _)]
    refine congrArg (fun z => 0 - Ideal.log z) (congrArg (· + _) (congrArg₂ _ (exp2_dot_mul _ _) ?_))
    simp only [keyAt, dif_pos hb]
  have hsum : ∑ j, nll (ex (Q j) (K j)) (∑ i, ex (Q i) (K j))
      = ∑ r : Fin 4, ∑ a : Fin 2048, nll (ex (keyAt Q (2048 * r + a)) (keyAt K (2048 * r + a))) (∑ i, ex (Q i) (keyAt K (2048 * r + a))) := by
    have hs : ∀ j : Fin 8192, nll (ex (Q j) (K j)) (∑ i, ex (Q i) (K j))
        = (fun n => nll (ex (keyAt Q n) (keyAt K n)) (∑ i, ex (Q i) (keyAt K n))) (j : ℕ) := fun j => by simp only [keyAt_fin]
    rw [Finset.sum_congr rfl fun j _ => hs j, Fin.sum_univ_tiles 4 2048 rfl]
    refine Finset.sum_congr rfl fun r _ => Finset.sum_congr rfl fun a _ => ?_
    simp [mul_comm]
  pointwise [lossOf, k1_pay7, k1_pay5, k1_pay2, k1_pay3, k1_pay4, k1_pay6, sqF]
  have t0 := fun a : Fin 2048 => term 0 a a (by simp) (by omega)
  have t1 := fun a : Fin 2048 => term 1 a (2048 + a) (by simp) (by omega)
  have t2 := fun a : Fin 2048 => term 2 a (4096 + a) (by simp) (by omega)
  have t3 := fun a : Fin 2048 => term 3 a (6144 + a) (by simp) (by omega)
  simp only [Fin.sum_univ_one, t0, t1, t2, t3, hl, lanes_word, inv_rows_word, coe_sum, ← EReal.coe_add, ← EReal.coe_mul]
  rw [loss, ← hL, hsum]
  congr 1
  simp only [Fin.sum_univ_four, Finset.sum_const, Finset.card_univ, Fintype.card_fin, nsmul_eq_mul]
  norm_num
  ring

end Cert.KernelIdeal.Pf
end
-- ==== Proof.KernelIdeal.Arrays.lean ====
/- What the arrays of the two calls hold, place by place: the blocks a point reads, and the scaled keys the first call
   leaves for the second. -/
module

public import proofs.«01_k».proof.Proof.KernelIdeal.Value

@[expose] public section

set_option maxRecDepth 16384

noncomputable section

namespace Cert.KernelIdeal.Pf

open Idealize.ShloMosaic Idealize.ShloMosaic.TcCoe
open Idealize.ShloMosaic.Pipeline (Dat)
open Cert.KernelIdeal.Gen Cert.Loss

variable (V : Contents Ideal)

/-- A row of a point's block is a row of the array, at either call's points. -/
theorem row_lt {t a : ℕ} (ht : t < 4) (ha : a < 2048) : 2048 * t + a < 8192 := by omega
/-- The first call has four points. -/
theorem lt0 (t : Fin cfg0.N) : (t : ℕ) < 4 := lt_of_lt_of_eq t.2 (show cfg0.N = 4 from N_0)
/-- The second call has four points. -/
theorem lt1 (t : Fin cfg1.N) : (t : ℕ) < 4 := lt_of_lt_of_eq t.2 (show cfg1.N = 4 from N_1)

/-- The input's blocks of the first call follow the points. -/
theorem idx00 : ∀ t : Fin cfg0.N, win0_0.index t 0 = t ∧ win0_0.index t 1 = 0 := by decide +kernel
/-- So does the output of the first call; -/
theorem idx01 : ∀ t : Fin cfg0.N, win0_1.index t 0 = t ∧ win0_1.index t 1 = 0 := by decide +kernel
/-- of the second call, the queries do, -/
theorem idx10 : ∀ t : Fin cfg1.N, win1_0.index t 0 = t ∧ win1_0.index t 1 = 0 := by decide +kernel
/-- the array of keys is one block, -/
theorem idx11 : ∀ t : Fin cfg1.N, win1_1.index t 0 = 0 ∧ win1_1.index t 1 = 0 := by decide +kernel
/-- and the block of keys follows the points. -/
theorem idx12 : ∀ t : Fin cfg1.N, win1_2.index t 0 = t ∧ win1_2.index t 1 = 0 := by decide +kernel

/-- The block of raw keys the first call reads at a point. -/
theorem blkP_eq (c : Dev nD) (t : Fin cfg0.N) (a : Fin 2048) (d : Fin 256) :
    blkP V c 0 t (ix2 a d) = V c main_arg1 (ix2 ⟨2048 * (t : ℕ) + a, row_lt (lt0 t) a.2⟩ d) := by
  refine congrArg (V c main_arg1) (funext fun i => Fin.ext ?_)
  match i with
  | 0 => blk_simp; rw [(idx00 t).1, mul_comm]
  | 1 => blk_simp; rw [(idx00 t).2, Nat.zero_mul, Nat.zero_add]

/-- The block of raw queries the second call reads at a point; -/
theorem blkM0_eq (c : Dev nD) (t : Fin cfg1.N) (a : Fin 2048) (d : Fin 256) :
    blkM V c 0 t (ix2 a d) = V c main_arg0 (ix2 ⟨2048 * (t : ℕ) + a, row_lt (lt1 t) a.2⟩ d) := by
  refine congrArg (V c main_arg0) (funext fun i => Fin.ext ?_)
  match i with
  | 0 => blk_simp; rw [(idx10 t).1, mul_comm]
  | 1 => blk_simp; rw [(idx10 t).2, Nat.zero_mul, Nat.zero_add]
/-- the scaled keys, all of them at every point; -/
theorem blkM1_eq (c : Dev nD) (t : Fin cfg1.N) (j : Fin 8192) (d : Fin 256) :
    blkM V c 1 t (ix2 j d) = V c main_v0 (ix2 j d) := by
  refine congrArg (V c main_v0) (funext fun i => Fin.ext ?_)
  match i with
  | 0 => blk_simp; rw [(idx11 t).1, Nat.zero_mul, Nat.zero_add]
  | 1 => blk_simp; rw [(idx11 t).2, Nat.zero_mul, Nat.zero_add]
/-- and the point's own block of them. -/
theorem blkM2_eq (c : Dev nD) (t : Fin cfg1.N) (a : Fin 2048) (d : Fin 256) :
    blkM V c 2 t (ix2 a d) = V c main_v0 (ix2 ⟨2048 * (t : ℕ) + a, row_lt (lt1 t) a.2⟩ d) := by
  refine congrArg (V c main_v0) (funext fun i => Fin.ext ?_)
  match i with
  | 0 => blk_simp; rw [(idx12 t).1, mul_comm]
  | 1 => blk_simp; rw [(idx12 t).2, Nat.zero_mul, Nat.zero_add]

variable (m : (ℓ : Loc nD τ sig) → Buf (Elt Ideal) ℓ)

/-- The normalised queries. -/
def qRows (c : Dev nD) (i : Fin 8192) : Fin 256 → ℝ := nrm fun d => m ((c : Thread nD τ).loc main_arg0) (ix2 i d)
/-- The normalised keys. -/
def kRows (c : Dev nD) (i : Fin 8192) : Fin 256 → ℝ := nrm fun d => m ((c : Thread nD τ).loc main_arg1) (ix2 i d)

/-- What the first call leaves in its output array. -/
def scaledKeys (c : Dev nD) : Vec Ideal S8192x256 .fp8e4m3 := fun i => ((kRows m c (i 0) (i 1) * sqR : ℝ) : EReal)

/-- The first call's write-backs fill its output array with the scaled keys. -/
theorem arrAt_keys (c : Dev nD) : (datP (V0 m) c).arrAt 1 cfg0.N = scaledKeys m c := by
  refine (datP (V0 m) c).arrAt_eq_of_covers 1 _ (by decide +kernel) fun t hf y => ?_
  rw [datP_after1]
  blk_simp
  obtain ⟨a, d, rfl⟩ : ∃ (a : Fin 2048) (d : Fin 256), y = ix2 a d := ⟨y 0, y 1, eq_ix2 y⟩
  have he : ((cfg0.win 1).blk t).view.emb (ix2 a d) = (ix2 ⟨2048 * (t : ℕ) + a, row_lt (lt0 t) a.2⟩ d : S8192x256.Idx) := by
    refine funext fun i => Fin.ext ?_
    match i with
    | 0 => blk_simp; rw [(idx01 t).1, mul_comm]
    | 1 => blk_simp; rw [(idx01 t).2, Nat.zero_mul, Nat.zero_add]
  refine (prep_eq _ a d).trans ?_
  have hr : rowsOf (blkP (V0 m) c 0 t) a = kRows m c ⟨2048 * (t : ℕ) + a, row_lt (lt0 t) a.2⟩ := by
    unfold rowsOf kRows
    exact congrArg nrm (funext fun d => blkP_eq (V0 m) c t a d)
  rw [hr]
  exact (congrArg (scaledKeys m c) he).symm

/-- The second call finds the scaled keys, place by place, -/
theorem V1_keys (c : Dev nD) (j : Fin 8192) (d : Fin 256) :
    V1 m c main_v0 (ix2 j d) = ((kRows m c j d * sqR : ℝ) : EReal) :=
  congrFun ((W1_arr m c 1).trans (arrAt_keys m c)) (ix2 j d)

/-- and the queries as launched. -/
theorem V1_queries (c : Dev nD) : V1 m c main_arg0 = m ((c : Thread nD τ).loc main_arg0) :=
  W1_args m c main_arg0 (by simp)

/-- The normalised rows of the queries a point reads. -/
theorem rowsOf_blk (c : Dev nD) (t : Fin cfg1.N) (a : Fin 2048) :
    rowsOf (blkM (V1 m) c 0 t) a = keyAt (qRows m c) (2048 * t + a) := by
  rw [keyAt, dif_pos (row_lt (lt1 t) a.2)]
  unfold rowsOf qRows
  refine congrArg nrm (funext fun d => ?_)
  rw [blkM0_eq, V1_queries]

/-- The whole array of keys a point reads. -/
theorem keys_whole (c : Dev nD) (t : Fin cfg1.N) (j : Fin 8192) (d : Fin 256) :
    blkM (V1 m) c 1 t (ix2 j d) = ((kRows m c j d * sqR : ℝ) : EReal) := by rw [blkM1_eq, V1_keys]

/-- The point's own block of keys. -/
theorem keys_blk (c : Dev nD) (t : Fin cfg1.N) (a : Fin 2048) (d : Fin 256) :
    blkM (V1 m) c 2 t (ix2 a d) = ((keyAt (kRows m c) (2048 * t + a) d * sqR : ℝ) : EReal) := by
  rw [blkM2_eq, V1_keys, keyAt, dif_pos (row_lt (lt1 t) a.2)]

/-- A sum over the 8192 rows, block by block. -/
theorem sum_blocks (f : ℕ → ℝ) :
    (∑ a : Fin 2048, f (2048 * 0 + a)) + (∑ a : Fin 2048, f (2048 * 1 + a)) + (∑ a : Fin 2048, f (2048 * 2 + a))
      + (∑ a : Fin 2048, f (2048 * 3 + a)) = ∑ i : Fin 8192, f i := by
  rw [Fin.sum_univ_tiles 4 2048 rfl, Fin.sum_univ_four]
  simp only [mul_comm]
  rfl

/-- The kernel's result is the loss of its two arguments' rows. -/
theorem lossM_eq (c : Dev nD) : lossM (V1 m) c (ix2 0 0) = ((loss (qRows m c) (kRows m c) : ℝ) : EReal) := by
  have hc : ∀ (r : Fin 4) (j : Fin 8192), colAt (V1 m) c r r.2 (ix3 0 0 j)
      = ((∑ a : Fin 2048, ex (keyAt (qRows m c) (2048 * r + a)) (kRows m c j) : ℝ) : EReal) := fun r j => by
    refine (rowC_eq _ _ (kRows m c) (keys_whole m c _) j).trans ?_
    simp only [rowsOf_blk]
  have hl : ∀ (r : Fin 4) (l : Fin 128), lossRowAt (V1 m) c r r.2 (ix3 0 0 l)
      = ((∑ a : Fin 2048, nll (ex (keyAt (qRows m c) (2048 * r + a)) (keyAt (kRows m c) (2048 * r + a)))
          (∑ j, ex (keyAt (qRows m c) (2048 * r + a)) (kRows m c j)) : ℝ) : EReal) := fun r l => by
    refine (rowL_eq _ _ _ (kRows m c) _ (keys_whole m c _) (keys_blk m c _) l).trans ?_
    simp only [rowsOf_blk]
  have hd : ∀ (r : Fin 4) (a : Fin 2048), diagAt (V1 m) c r r.2 (ix3 0 0 a)
      = (((∑ k, keyAt (qRows m c) (2048 * r + a) k * keyAt (kRows m c) (2048 * r + a) k) * sqR : ℝ) : EReal) := fun r a => by
    refine (rowD_eq _ _ _ (keys_blk m c _) a).trans ?_
    simp only [rowsOf_blk]
  refine lossOf_eq (fun r => colAt (V1 m) c r r.2) (fun r => lossRowAt (V1 m) c r r.2) (fun r => diagAt (V1 m) c r r.2)
    (qRows m c) (kRows m c) _ _ hc hl hd (fun j => ?_) ?_
  · refine (sum_blocks fun n => ex (keyAt (qRows m c) n) (kRows m c j)).trans ?_
    simp only [keyAt_fin]
  · refine (sum_blocks fun n => nll (ex (keyAt (qRows m c) n) (keyAt (kRows m c) n)) (∑ j, ex (keyAt (qRows m c) n) (kRows m c j))).trans ?_
    simp only [keyAt_fin]

end Cert.KernelIdeal.Pf
end
-- ==== Proof.ReferenceValue.lean ====
/- The reference's result as a real number: the loss of its normalised queries and keys. -/
module

public import proofs.«01_k».proof.Proof.Gen.ReferenceIdeal.Run
public import proofs.«01_k».proof.Proof.Math
public import Idealize.ShloMosaic.Lib.Pointwise

@[expose] public section

set_option maxRecDepth 16384

noncomputable section

namespace Cert.Loss

open Idealize.ShloMosaic

/-- The mean negative logarithm the reference forms of the diagonal `d` and the sums `s`. -/
def meanForm (d s : Fin 8192 → EReal) : EReal :=
  Ideal.div (∑ x, -Ideal.log (Ideal.div (d x) (d x + (s x - d x)) + Ideal.ofBits .f32 925353388#32))
    (Ideal.ofBits .f32 1174405120#32)

/-- The diagonal, as the reference takes it: a row's sum with everything off the diagonal replaced by `z`. -/
def diagForm (e : Fin 8192 → Fin 8192 → EReal) (z : EReal) (x : Fin 8192) : EReal :=
  ∑ y : Fin 8192, Scalar.select (IntOp.cmpi CmpIPredicate.eq (BitVec.ofNat 32 (x : ℕ)) (BitVec.ofNat 32 (y : ℕ))) (e x y) z

/-- The exponentials the reference forms of raw queries and keys. -/
def expForm (q k : Fin 8192 → Fin 256 → EReal) (x y : Fin 8192) : EReal :=
  Ideal.exp (Ideal.div (∑ d, Ideal.div (q x d) (scl (q x)) * Ideal.div (k y d) (scl (k y))) (Ideal.ofBits .f32 1028443341#32))

/-- The sum over a row whose off-diagonal places are zero is the diagonal's element. -/
theorem diagForm_eq (e : Fin 8192 → Fin 8192 → EReal) (x : Fin 8192) : diagForm e 0 x = e x x := by
  rw [diagForm, Finset.sum_eq_single x]
  · simp [Scalar.select, IntOp.cmpi]
  · intro y _ hy
    have h : ¬ BitVec.ofNat 32 (x : ℕ) = BitVec.ofNat 32 (y : ℕ) := by
      intro h
      have := congrArg BitVec.toNat h
      simp only [BitVec.toNat_ofNat] at this
      omega
    have hb := beq_eq_false_iff_ne.2 h
    simp [Scalar.select, IntOp.cmpi, hb]
  · simp

/-- The reference's exponentials are those of the normalised rows. -/
theorem expForm_eq (q k : Fin 8192 → Fin 256 → EReal) (x y : Fin 8192) :
    expForm q k x y = ((ex (nrm (q x)) (nrm (k y)) : ℝ) : EReal) := by
  simp only [expForm, div_scl, ← EReal.coe_mul, coe_sum, exp_div]
  rfl

/-- The mean over real diagonals and sums, all positive. -/
theorem meanForm_eq (d s : Fin 8192 → ℝ) (hd : ∀ x, 0 < d x) (hs : ∀ x, 0 < s x) :
    meanForm (fun x => (d x : EReal)) (fun x => (s x : EReal)) = (((∑ x, nll (d x) (s x)) / 8192 : ℝ) : EReal) := by
  simp only [meanForm, neg_log_ratio _ _ (hd _) (hs _), coe_sum]
  rw [rows_word, Ideal.div_coe (by norm_num), ← EReal.coe_mul, mul_one_div]

/-- The two means together are the loss. -/
theorem forms_eq (q k : Fin 8192 → Fin 256 → EReal) :
    meanForm (diagForm (expForm q k) 0) (fun x => ∑ y, expForm q k x y)
      + meanForm (diagForm (expForm q k) 0) (fun x => ∑ y, expForm q k y x)
      = ((loss (fun i => nrm (q i)) (fun i => nrm (k i)) : ℝ) : EReal) := by
  have hd : diagForm (expForm q k) 0 = fun x => ((ex (nrm (q x)) (nrm (k x)) : ℝ) : EReal) := by
    funext x; rw [diagForm_eq, expForm_eq]
  rw [hd]
  simp only [expForm_eq, coe_sum]
  rw [meanForm_eq _ _ (fun _ => ex_pos _ _) (fun _ => sum_ex_pos (by norm_num) _ fun _ => ex_pos _ _),
    meanForm_eq _ _ (fun _ => ex_pos _ _) (fun _ => sum_ex_pos (by norm_num) _ fun _ => ex_pos _ _),
    ← EReal.coe_add, loss, add_div]

end Cert.Loss

namespace Cert.ReferenceIdeal.Value

open Idealize.ShloMosaic Cert.Loss

set_option maxHeartbeats 2000000 in
/-- The reference's result is the loss of its two arguments' rows. -/
theorem result_eq (m : (ℓ : Loc nD τ sig) → Buf (Elt Ideal) ℓ) (c : Dev nD) :
    res_main_v46 (F := Ideal) m c (ix2 0 0)
      = ((loss (fun i => nrm fun d => m (c.tc.loc main_arg0) (ix2 i d)) (fun i => nrm fun d => m (c.tc.loc main_arg1) (ix2 i d)) : ℝ) : EReal) := by
  rw [← forms_eq]
  unfold res_main_v46
  pointwise []
  have hz : (id (constant (F := Ideal) S_ .f32 0#32) ix0 : EReal) = 0 := by
    simp only [id]; pointwise []
  rw [← hz]
  rfl

end Cert.ReferenceIdeal.Value
end
-- ==== Proof.lean ====
/- The proof of the certificate's claim: the three frames, the named constant, and the equality of the kernel's result with
   the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Arrays
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The kernel terminates, leaves its arguments unchanged and every counter at zero. -/
theorem frame_kernel : Cert.quiescent_Kernel := fun m ρ _ =>
  (θ_run Cert.Kernel.defs _ _).mono (fun _ h => ⟨fun c => ⟨(h.1 c).1, (h.1 c).2.1⟩, h.2⟩)
    (Cert.Kernel.Pf.run (F := Bits) m ρ)

/-- So does its idealization. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Pf.run (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant has the value its name stands for. -/
theorem preserves : Cert.preserves_Kernel_KernelIdeal :=
  IdealRules.named_const.statement Cert.KernelIdeal.κ "sq" .f32 0x40ABE401#32
    ((Real.sqrt (((Real.log 2) * (13421773 / 268435456))⁻¹) : ℝ) : EReal) rfl

/-- On equal arguments the reference's result is the kernel's: both are the loss of the arguments' normalised rows. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1)) :
    Cert.ReferenceIdeal.Value.res_main_v46 (F := Ideal) m' c = Cert.KernelIdeal.Pf.lossM (Cert.KernelIdeal.Pf.V1 m) c := by
  refine funext fun (i : (⟨2, ![1, 1]⟩ : Shape).Idx) => ?_
  obtain ⟨a, b, rfl⟩ : ∃ (a b : Fin 1), i = ix2 a b := ⟨i 0, i 1, eq_ix2 i⟩
  obtain rfl : a = 0 := Subsingleton.elim _ _
  obtain rfl : b = 0 := Subsingleton.elim _ _
  refine (Cert.ReferenceIdeal.Value.result_eq m' c).trans (Eq.trans ?_ (Cert.KernelIdeal.Pf.lossM_eq m c).symm)
  rw [h0, h1]
  rfl

/-- Kernel and reference compute the same loss over the extended reals. -/
theorem algebraic : Cert.algebraic_KernelIdeal_ReferenceIdeal := fun m g m' g' _ hagree =>
  ⟨fun c => Cert.KernelIdeal.Pf.lossM (Cert.KernelIdeal.Pf.V1 m) c,
    (θ_run Cert.KernelIdeal.defs _ _).mono (fun _ h c => ⟨(h.1 c).2.2, (h.1 c).1, (h.1 c).2.1⟩)
      (Cert.KernelIdeal.Pf.run (F := Ideal) m g),
    (θ_run Cert.ReferenceIdeal.defs _ _).mono
      (fun _ h c => ⟨(h c).1.trans (result_eq m m' c (hagree c).1 (hagree c).2), (h c).2⟩)
      (Cert.ReferenceIdeal.Value.run (F := Ideal) m' g')⟩

/-- The certificate's claim. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
